-- ==== Defs.lean ====
def Pre_Kernel [hPre_codes_in_table : Cert.Pre_codes_in_table.Facts] (m : (ℓ : Loc Cert.Kernel.nD Cert.Kernel.τ Cert.Kernel.sig) → Buf (Elt Bits) ℓ) : Prop :=
  ∀ c : Dev Cert.Kernel.nD,
    (Cert.Pre_codes_in_table.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_codes_in_table : Cert.Pre_codes_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_codes_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_table_ends_in_top [hPre_table_ends_in_top : Cert.Pre_table_ends_in_top.Facts] (m : (ℓ : Loc Cert.KernelIdeal.nD Cert.KernelIdeal.τ Cert.KernelIdeal.sig) → Buf (Elt Ideal) ℓ) : Prop :=
  ∀ c : Dev Cert.KernelIdeal.nD,
    (Cert.Pre_table_ends_in_top.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_table_ends_in_top [hPre_table_ends_in_top : Cert.Pre_table_ends_in_top.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_ends_in_top.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_codes_in_table : Cert.Pre_codes_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_codes_in_table : Cert.Pre_codes_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_ends_in_top [hKernelIdeal : Cert.KernelIdeal.Facts] [hPre_table_ends_in_top : Cert.Pre_table_ends_in_top.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_ends_in_top m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_ends_in_top [hReferenceIdeal : Cert.ReferenceIdeal.Facts] [hPre_table_ends_in_top : Cert.Pre_table_ends_in_top.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_ends_in_top m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_table_ends_in_top [hKernelIdeal : Cert.KernelIdeal.Facts] [hReferenceIdeal : Cert.ReferenceIdeal.Facts] [hPre_table_ends_in_top : Cert.Pre_table_ends_in_top.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_ends_in_top m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_codes_in_table : Cert.Pre_codes_in_table.Facts) (hPre_table_ends_in_top : Cert.Pre_table_ends_in_top.Facts),
    quiescent_Kernel (hKernel := hKernel) (hPre_codes_in_table := hPre_codes_in_table)
    ∧ quiescent_KernelIdeal (hKernelIdeal := hKernelIdeal) (hPre_codes_in_table := hPre_codes_in_table)
    ∧ quiescent_KernelIdeal_pre_table_ends_in_top (hKernelIdeal := hKernelIdeal) (hPre_table_ends_in_top := hPre_table_ends_in_top)
    ∧ quiescent_ReferenceIdeal (hReferenceIdeal := hReferenceIdeal)
    ∧ quiescent_ReferenceIdeal_pre_table_ends_in_top (hReferenceIdeal := hReferenceIdeal) (hPre_table_ends_in_top := hPre_table_ends_in_top)
    ∧ preserves_Kernel_KernelIdeal
    ∧ algebraic_KernelIdeal_ReferenceIdeal_pre_table_ends_in_top (hKernelIdeal := hKernelIdeal) (hReferenceIdeal := hReferenceIdeal) (hPre_table_ends_in_top := hPre_table_ends_in_top)
-- ==== Pre_codes_in_table.lean ====
abbrev S4096x4096 : Shape := ⟨2, ![4096, 4096]⟩
abbrev S65536x1 : Shape := ⟨2, ![65536, 1]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : IVec S4096x4096 32) (main_arg1 : FVec F S65536x1 .f32) : IVec S_ 1 :=
  let main_c : IVec S_ 32 := constantI S_ 32 0#32
  let main_v0 : IVec S4096x4096 32 := broadcastInDim S4096x4096 ![] bcast_S_S4096x4096 main_c
  let main_v1 : IVec S4096x4096 1 := cmpi .sge main_arg0 main_v0
  let main_c_0 : IVec S_ 1 := constantI S_ 1 1#1
  let main_v2 : IVec S_ 1 := (fun x v => Host.reduce IntOp.andi x v reducesTo_S4096x4096_S_d0_1 h_S_) main_v1 main_c_0
  let main_c_1 : IVec S_ 32 := constantI S_ 32 65536#32
  let main_v3 : IVec S4096x4096 32 := broadcastInDim S4096x4096 ![] bcast_S_S4096x4096 main_c_1
  let main_v4 : IVec S4096x4096 1 := cmpi .slt main_arg0 main_v3
  let main_c_2 : IVec S_ 1 := constantI S_ 1 1#1
  let main_v5 : IVec S_ 1 := (fun x v => Host.reduce IntOp.andi x v reducesTo_S4096x4096_S_d0_1 h_S_) main_v4 main_c_2
  let main_v6 : IVec S_ 1 := andi main_v2 main_v5
  main_v6
-- ==== Pre_table_ends_in_top.lean ====
abbrev S4096x4096 : Shape := ⟨2, ![4096, 4096]⟩
abbrev S65536x1 : Shape := ⟨2, ![65536, 1]⟩
abbrev S_ : Shape := ⟨0, ![]⟩
abbrev S1x1 : Shape := ⟨2, ![1, 1]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  slices_S65536x1_S1x1_65535_0 : S65536x1.Slices ![65535, 0] S1x1
  shapeCasts_S1x1_S_ : S1x1.ShapeCasts S_

variable [Facts]

def fn {F : FTy → Type} [FloatOps F] (main_arg0 : IVec S4096x4096 32) (main_arg1 : FVec F S65536x1 .f32) : IVec S_ 1 :=
  let main_c : IVec S_ 32 := constantI S_ 32 0#32
  let main_v0 : IVec S4096x4096 32 := broadcastInDim S4096x4096 ![] bcast_S_S4096x4096 main_c
  let main_v1 : IVec S4096x4096 1 := cmpi .sge main_arg0 main_v0
  let main_c_0 : IVec S_ 1 := constantI S_ 1 1#1
  let main_v2 : IVec S_ 1 := (fun x v => Host.reduce IntOp.andi x v reducesTo_S4096x4096_S_d0_1 h_S_) main_v1 main_c_0
  let main_c_1 : IVec S_ 32 := constantI S_ 32 65536#32
  let main_v3 : IVec S4096x4096 32 := broadcastInDim S4096x4096 ![] bcast_S_S4096x4096 main_c_1
  let main_v4 : IVec S4096x4096 1 := cmpi .slt main_arg0 main_v3
  let main_c_2 : IVec S_ 1 := constantI S_ 1 1#1
  let main_v5 : IVec S_ 1 := (fun x v => Host.reduce IntOp.andi x v reducesTo_S4096x4096_S_d0_1 h_S_) main_v4 main_c_2
  let main_v6 : IVec S_ 1 := andi main_v2 main_v5
  let main_v7 : FVec F S1x1 .f32 := (extractStridedSlice S1x1 ![65535, 0] · slices_S65536x1_S1x1_65535_0) main_arg1
  let main_v8 : FVec F S_ .f32 := shapeCast S_ main_v7 shapeCasts_S1x1_S_
  let main_cst : FVec F S_ .f32 := constant S_ .f32 0x3ED34FD3#32
  let main_v9 : IVec S_ 1 := cmpf .oeq main_v8 main_cst
  let main_v10 : IVec S_ 1 := andi main_v6 main_v9
  main_v10
-- ==== Kernel.lean ====
abbrev S4096x4096 : Shape := ⟨2, ![4096, 4096]⟩
abbrev S65536x1 : Shape := ⟨2, ![65536, 1]⟩
abbrev S65536 : Shape := ⟨1, ![65536]⟩
abbrev S16777216 : Shape := ⟨1, ![16777216]⟩
abbrev S65535 : Shape := ⟨1, ![65535]⟩
abbrev S8x2048 : Shape := ⟨2, ![8, 2048]⟩
abbrev S16384 : Shape := ⟨1, ![16384]⟩
abbrev S_ : Shape := ⟨0, ![]⟩
abbrev S2048 : Shape := ⟨1, ![2048]⟩
abbrev S16 : Shape := ⟨1, ![16]⟩
abbrev S1x16 : Shape := ⟨2, ![1, 16]⟩
abbrev S4096x4096x1 : Shape := ⟨3, ![4096, 4096, 1]⟩

abbrev nBuf : Table → Nat
  | .hbm => 5
  | .local .scVector .vmem => 5
  | _ => 0

abbrev bufTy : (tb : Table) → Fin (nBuf tb) → BufTy
  | .hbm, ⟨0, _⟩ => ⟨S4096x4096, .i32⟩
  | .hbm, ⟨1, _⟩ => ⟨S65536x1, .f32⟩
  | .hbm, ⟨2, _⟩ => ⟨S65536, .f32⟩
  | .hbm, ⟨3, _⟩ => ⟨S16777216, .f32⟩
  | .hbm, ⟨4, _⟩ => ⟨S4096x4096x1, .f32⟩
  | .local .scVector .vmem, ⟨0, _⟩ => ⟨S65535, .f32⟩
  | .local .scVector .vmem, ⟨1, _⟩ => ⟨S8x2048, .i32⟩
  | .local .scVector .vmem, ⟨2, _⟩ => ⟨S8x2048, .i32⟩
  | .local .scVector .vmem, ⟨3, _⟩ => ⟨S16384, .f32⟩
  | .local .scVector .vmem, ⟨4, _⟩ => ⟨S16384, .f32⟩
  | _, _ => ⟨S4096x4096, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32 : BitVec 32 := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2048_i32 : BitVec 32 := 2048#32
  ![v2.toNat, 2048]
@[reducible] def k0_t1_loop : Scf.Loop 32 :=
  let c0_i32_2 : BitVec 32 := 0#32
  let c16_i32 : BitVec 32 := 16#32
  let v7 : BitVec 32 := Scalar.addi c0_i32_2 c16_i32
  let c1_i32 : BitVec 32 := 1#32
  ⟨c0_i32_2, v7, c1_i32⟩
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_63 : BitVec 32 := 0#32
  let c0_i32_2 : BitVec 32 := 0#32
  let c1_i32 : BitVec 32 := 1#32
  let arg14 : BitVec 32 := Scf.iv c0_i32_2 c1_i32 k0_t1
  let c2_i32_62 : BitVec 32 := 2#32
  let v72 : BitVec 32 := Scalar.muli arg14 c2_i32_62
  let v73 : BitVec 32 := Scalar.addi c0_i32_63 v72
  let c0_i32_65 : BitVec 32 := 0#32
  let v75 : BitVec 1 := Scalar.cmpi .sgt v73 c0_i32_65
  let v76 : BitVec 32 := Scalar.extui v75
  let c0_i32_66 : BitVec 32 := 0#32
  let v77 : BitVec 1 := Scalar.cmpi .slt v73 c0_i32_66
  let v78 : BitVec 32 := Scalar.extui v77
  let v79 : BitVec 32 := Scalar.subi v76 v78
  let c2_i32_64 : BitVec 32 := 2#32
  let c0_i32_67 : BitVec 32 := 0#32
  let v80 : BitVec 1 := Scalar.cmpi .sgt c2_i32_64 c0_i32_67
  let v81 : BitVec 32 := Scalar.extui v80
  let c0_i32_68 : BitVec 32 := 0#32
  let v82 : BitVec 1 := Scalar.cmpi .slt c2_i32_64 c0_i32_68
  let v83 : BitVec 32 := Scalar.extui v82
  let v84 : BitVec 32 := Scalar.subi v81 v83
  let v85 : BitVec 1 := Scalar.cmpi .ne v79 v84
  let v86 : BitVec 32 := Scalar.remsi v73 c2_i32_64
  let c0_i32_69 : BitVec 32 := 0#32
  let v87 : BitVec 1 := Scalar.cmpi .ne v86 c0_i32_69
  let v88 : BitVec 1 := Scalar.andi v85 v87
  let v74 : BitVec 32 := Scalar.divsi v73 c2_i32_64
  let c1_i32_70 : BitVec 32 := 1#32
  let v89 : BitVec 32 := Scalar.subi v74 c1_i32_70
  let v90 : BitVec 32 := Scalar.select v88 v89 v74
  let c8_i32 : BitVec 32 := 8#32
  let v91 : BitVec 32 := Scalar.muli v90 c8_i32
  let v92 : BitVec 32 := Scalar.addi v2 v91
  let c0_i32_71 : BitVec 32 := 0#32
  ![v92.toNat, 0]
@[reducible] def k0_t2_loop : Scf.Loop 32 :=
  let c0_i32_75 : BitVec 32 := 0#32
  let c128_i32_76 : BitVec 32 := 128#32
  let v98 : BitVec 32 := Scalar.addi c0_i32_75 c128_i32_76
  let c1_i32_77 : BitVec 32 := 1#32
  ⟨c0_i32_75, v98, c1_i32_77⟩
def k0_off4 (k0_t2 : Fin k0_t2_loop.trips) : Fin 2 → Nat :=
  let c0_i32_225 : BitVec 32 := 0#32
  let v241 : Index := Scalar.indexCast c0_i32_225
  let c0_i32_224 : BitVec 32 := 0#32
  let c0_i32_75 : BitVec 32 := 0#32
  let c1_i32_77 : BitVec 32 := 1#32
  let arg15 : BitVec 32 := Scf.iv c0_i32_75 c1_i32_77 k0_t2
  let c16_i32_223 : BitVec 32 := 16#32
  let v239 : BitVec 32 := Scalar.muli arg15 c16_i32_223
  let v240 : BitVec 32 := Scalar.addi c0_i32_224 v239
  let v242 : Index := Scalar.indexCast v240
  ![0, v242.toNat]

def k0_chk1 (v247 : IVec S16 32) : Prop :=
  (∀ a x, ((![v247] : Fin 1 → IVec S16 32) a x).toNat < S65535.size a)
theorem k0_idx1_inb : ∀ (v247 : IVec S16 32) (k0_hw1 : k0_chk1 v247), ∀ a x, ((![v247] : Fin 1 → IVec S16 32) a x).toNat < S65535.size a := fun v247 k0_hw1 => k0_hw1
def k0_off5 (k0_t2 : Fin k0_t2_loop.trips) : Fin 1 → Nat :=
  let c0_i32_227 : BitVec 32 := 0#32
  let c0_i32_224 : BitVec 32 := 0#32
  let c0_i32_75 : BitVec 32 := 0#32
  let c1_i32_77 : BitVec 32 := 1#32
  let arg15 : BitVec 32 := Scf.iv c0_i32_75 c1_i32_77 k0_t2
  let c16_i32_223 : BitVec 32 := 16#32
  let v239 : BitVec 32 := Scalar.muli arg15 c16_i32_223
  let v240 : BitVec 32 := Scalar.addi c0_i32_224 v239
  let v251 : BitVec 32 := Scalar.addi c0_i32_227 v240
  let v252 : Index := Scalar.indexCast v251
  ![v252.toNat]
@[reducible] def k0_t3_loop : Scf.Loop 32 :=
  let c0_i32_79 : BitVec 32 := 0#32
  let c128_i32_80 : BitVec 32 := 128#32
  let v99 : BitVec 32 := Scalar.addi c0_i32_79 c128_i32_80
  let c1_i32_81 : BitVec 32 := 1#32
  ⟨c0_i32_79, v99, c1_i32_81⟩
def k0_off6 (k0_t3 : Fin k0_t3_loop.trips) : Fin 2 → Nat :=
  let c1_i32_225 : BitVec 32 := 1#32
  let v241 : Index := Scalar.indexCast c1_i32_225
  let c0_i32_224 : BitVec 32 := 0#32
  let c0_i32_79 : BitVec 32 := 0#32
  let c1_i32_81 : BitVec 32 := 1#32
  let arg15 : BitVec 32 := Scf.iv c0_i32_79 c1_i32_81 k0_t3
  let c16_i32_223 : BitVec 32 := 16#32
  let v239 : BitVec 32 := Scalar.muli arg15 c16_i32_223
  let v240 : BitVec 32 := Scalar.addi c0_i32_224 v239
  let v242 : Index := Scalar.indexCast v240
  ![1, v242.toNat]

def k0_chk2 (v247 : IVec S16 32) : Prop :=
  (∀ a x, ((![v247] : Fin 1 → IVec S16 32) a x).toNat < S65535.size a)
theorem k0_idx2_inb : ∀ (v247 : IVec S16 32) (k0_hw2 : k0_chk2 v247), ∀ a x, ((![v247] : Fin 1 → IVec S16 32) a x).toNat < S65535.size a := fun v247 k0_hw2 => k0_hw2
def k0_off7 (k0_t3 : Fin k0_t3_loop.trips) : Fin 1 → Nat :=
  let c2048_i32_227 : BitVec 32 := 2048#32
  let c0_i32_224 : BitVec 32 := 0#32
  let c0_i32_79 : BitVec 32 := 0#32
  let c1_i32_81 : BitVec 32 := 1#32
  let arg15 : BitVec 32 := Scf.iv c0_i32_79 c1_i32_81 k0_t3
  let c16_i32_223 : BitVec 32 := 16#32
  let v239 : BitVec 32 := Scalar.muli arg15 c16_i32_223
  let v240 : BitVec 32 := Scalar.addi c0_i32_224 v239
  let v251 : BitVec 32 := Scalar.addi c2048_i32_227 v240
  let v252 : Index := Scalar.indexCast v251
  ![v252.toNat]
@[reducible] def k0_t4_loop : Scf.Loop 32 :=
  let c0_i32_83 : BitVec 32 := 0#32
  let c128_i32_84 : BitVec 32 := 128#32
  let v100 : BitVec 32 := Scalar.addi c0_i32_83 c128_i32_84
  let c1_i32_85 : BitVec 32 := 1#32
  ⟨c0_i32_83, v100, c1_i32_85⟩
def k0_off8 (k0_t4 : Fin k0_t4_loop.trips) : Fin 2 → Nat :=
  let c2_i32_225 : BitVec 32 := 2#32
  let v241 : Index := Scalar.indexCast c2_i32_225
  let c0_i32_224 : BitVec 32 := 0#32
  let c0_i32_83 : BitVec 32 := 0#32
  let c1_i32_85 : BitVec 32 := 1#32
  let arg15 : BitVec 32 := Scf.iv c0_i32_83 c1_i32_85 k0_t4
  let c16_i32_223 : BitVec 32 := 16#32
  let v239 : BitVec 32 := Scalar.muli arg15 c16_i32_223
  let v240 : BitVec 32 := Scalar.addi c0_i32_224 v239
  let v242 : Index := Scalar.indexCast v240
  ![2, v242.toNat]

def k0_chk3 (v247 : IVec S16 32) : Prop :=
  (∀ a x, ((![v247] : Fin 1 → IVec S16 32) a x).toNat < S65535.size a)
theorem k0_idx3_inb : ∀ (v247 : IVec S16 32) (k0_hw3 : k0_chk3 v247), ∀ a x, ((![v247] : Fin 1 → IVec S16 32) a x).toNat < S65535.size a := fun v247 k0_hw3 => k0_hw3
def k0_off9 (k0_t4 : Fin k0_t4_loop.trips) : Fin 1 → Nat :=
  let c4096_i32_227 : BitVec 32 := 4096#32
  let c0_i32_224 : BitVec 32 := 0#32
  let c0_i32_83 : BitVec 32 := 0#32
  let c1_i32_85 : BitVec 32 := 1#32
  let arg15 : BitVec 32 := Scf.iv c0_i32_83 c1_i32_85 k0_t4
  let c16_i32_223 : BitVec 32 := 16#32
  let v239 : BitVec 32 := Scalar.muli arg15 c16_i32_223
  let v240 : BitVec 32 := Scalar.addi c0_i32_224 v239
  let v251 : BitVec 32 := Scalar.addi c4096_i32_227 v240
  let v252 : Index := Scalar.indexCast v251
  ![v252.toNat]
@[reducible] def k0_t5_loop : Scf.Loop 32 :=
  let c0_i32_87 : BitVec 32 := 0#32
  let c128_i32_88 : BitVec 32 := 128#32
  let v101 : BitVec 32 := Scalar.addi c0_i32_87 c128_i32_88
  let c1_i32_89 : BitVec 32 := 1#32
  ⟨c0_i32_87, v101, c1_i32_89⟩
def k0_off10 (k0_t5 : Fin k0_t5_loop.trips) : Fin 2 → Nat :=
  let c3_i32_225 : BitVec 32 := 3#32
  let v241 : Index := Scalar.indexCast c3_i32_225
  let c0_i32_224 : BitVec 32 := 0#32
  let c0_i32_87 : BitVec 32 := 0#32
  let c1_i32_89 : BitVec 32 := 1#32
  let arg15 : BitVec 32 := Scf.iv c0_i32_87 c1_i32_89 k0_t5
  let c16_i32_223 : BitVec 32 := 16#32
  let v239 : BitVec 32 := Scalar.muli arg15 c16_i32_223
  let v240 : BitVec 32 := Scalar.addi c0_i32_224 v239
  let v242 : Index := Scalar.indexCast v240
  ![3, v242.toNat]

def k0_chk4 (v247 : IVec S16 32) : Prop :=
  (∀ a x, ((![v247] : Fin 1 → IVec S16 32) a x).toNat < S65535.size a)
theorem k0_idx4_inb : ∀ (v247 : IVec S16 32) (k0_hw4 : k0_chk4 v247), ∀ a x, ((![v247] : Fin 1 → IVec S16 32) a x).toNat < S65535.size a := fun v247 k0_hw4 => k0_hw4
def k0_off11 (k0_t5 : Fin k0_t5_loop.trips) : Fin 1 → Nat :=
  let c6144_i32_227 : BitVec 32 := 6144#32
  let c0_i32_224 : BitVec 32 := 0#32
  let c0_i32_87 : BitVec 32 := 0#32
  let c1_i32_89 : BitVec 32 := 1#32
  let arg15 : BitVec 32 := Scf.iv c0_i32_87 c1_i32_89 k0_t5
  let c16_i32_223 : BitVec 32 := 16#32
  let v239 : BitVec 32 := Scalar.muli arg15 c16_i32_223
  let v240 : BitVec 32 := Scalar.addi c0_i32_224 v239
  let v251 : BitVec 32 := Scalar.addi c6144_i32_227 v240
  let v252 : Index := Scalar.indexCast v251
  ![v252.toNat]
@[reducible] def k0_t6_loop : Scf.Loop 32 :=
  let c0_i32_91 : BitVec 32 := 0#32
  let c128_i32_92 : BitVec 32 := 128#32
  let v102 : BitVec 32 := Scalar.addi c0_i32_91 c128_i32_92
  let c1_i32_93 : BitVec 32 := 1#32
  ⟨c0_i32_91, v102, c1_i32_93⟩
def k0_off12 (k0_t6 : Fin k0_t6_loop.trips) : Fin 2 → Nat :=
  let c4_i32_225 : BitVec 32 := 4#32
  let v241 : Index := Scalar.indexCast c4_i32_225
  let c0_i32_224 : BitVec 32 := 0#32
  let c0_i32_91 : BitVec 32 := 0#32
  let c1_i32_93 : BitVec 32 := 1#32
  let arg15 : BitVec 32 := Scf.iv c0_i32_91 c1_i32_93 k0_t6
  let c16_i32_223 : BitVec 32 := 16#32
  let v239 : BitVec 32 := Scalar.muli arg15 c16_i32_223
  let v240 : BitVec 32 := Scalar.addi c0_i32_224 v239
  let v242 : Index := Scalar.indexCast v240
  ![4, v242.toNat]

def k0_chk5 (v247 : IVec S16 32) : Prop :=
  (∀ a x, ((![v247] : Fin 1 → IVec S16 32) a x).toNat < S65535.size a)
theorem k0_idx5_inb : ∀ (v247 : IVec S16 32) (k0_hw5 : k0_chk5 v247), ∀ a x, ((![v247] : Fin 1 → IVec S16 32) a x).toNat < S65535.size a := fun v247 k0_hw5 => k0_hw5
def k0_off13 (k0_t6 : Fin k0_t6_loop.trips) : Fin 1 → Nat :=
  let c8192_i32_227 : BitVec 32 := 8192#32
  let c0_i32_224 : BitVec 32 := 0#32
  let c0_i32_91 : BitVec 32 := 0#32
  let c1_i32_93 : BitVec 32 := 1#32
  let arg15 : BitVec 32 := Scf.iv c0_i32_91 c1_i32_93 k0_t6
  let c16_i32_223 : BitVec 32 := 16#32
  let v239 : BitVec 32 := Scalar.muli arg15 c16_i32_223
  let v240 : BitVec 32 := Scalar.addi c0_i32_224 v239
  let v251 : BitVec 32 := Scalar.addi c8192_i32_227 v240
  let v252 : Index := Scalar.indexCast v251
  ![v252.toNat]
@[reducible] def k0_t7_loop : Scf.Loop 32 :=
  let c0_i32_95 : BitVec 32 := 0#32
  let c128_i32_96 : BitVec 32 := 128#32
  let v103 : BitVec 32 := Scalar.addi c0_i32_95 c128_i32_96
  let c1_i32_97 : BitVec 32 := 1#32
  ⟨c0_i32_95, v103, c1_i32_97⟩
def k0_off14 (k0_t7 : Fin k0_t7_loop.trips) : Fin 2 → Nat :=
  let c5_i32_225 : BitVec 32 := 5#32
  let v241 : Index := Scalar.indexCast c5_i32_225
  let c0_i32_224 : BitVec 32 := 0#32
  let c0_i32_95 : BitVec 32 := 0#32
  let c1_i32_97 : BitVec 32 := 1#32
  let arg15 : BitVec 32 := Scf.iv c0_i32_95 c1_i32_97 k0_t7
  let c16_i32_223 : BitVec 32 := 16#32
  let v239 : BitVec 32 := Scalar.muli arg15 c16_i32_223
  let v240 : BitVec 32 := Scalar.addi c0_i32_224 v239
  let v242 : Index := Scalar.indexCast v240
  ![5, v242.toNat]

def k0_chk6 (v247 : IVec S16 32) : Prop :=
  (∀ a x, ((![v247] : Fin 1 → IVec S16 32) a x).toNat < S65535.size a)
theorem k0_idx6_inb : ∀ (v247 : IVec S16 32) (k0_hw6 : k0_chk6 v247), ∀ a x, ((![v247] : Fin 1 → IVec S16 32) a x).toNat < S65535.size a := fun v247 k0_hw6 => k0_hw6
def k0_off15 (k0_t7 : Fin k0_t7_loop.trips) : Fin 1 → Nat :=
  let c10240_i32_227 : BitVec 32 := 10240#32
  let c0_i32_224 : BitVec 32 := 0#32
  let c0_i32_95 : BitVec 32 := 0#32
  let c1_i32_97 : BitVec 32 := 1#32
  let arg15 : BitVec 32 := Scf.iv c0_i32_95 c1_i32_97 k0_t7
  let c16_i32_223 : BitVec 32 := 16#32
  let v239 : BitVec 32 := Scalar.muli arg15 c16_i32_223
  let v240 : BitVec 32 := Scalar.addi c0_i32_224 v239
  let v251 : BitVec 32 := Scalar.addi c10240_i32_227 v240
  let v252 : Index := Scalar.indexCast v251
  ![v252.toNat]
@[reducible] def k0_t8_loop : Scf.Loop 32 :=
  let c0_i32_99 : BitVec 32 := 0#32
  let c128_i32_100 : BitVec 32 := 128#32
  let v104 : BitVec 32 := Scalar.addi c0_i32_99 c128_i32_100
  let c1_i32_101 : BitVec 32 := 1#32
  ⟨c0_i32_99, v104, c1_i32_101⟩
def k0_off16 (k0_t8 : Fin k0_t8_loop.trips) : Fin 2 → Nat :=
  let c6_i32_225 : BitVec 32 := 6#32
  let v241 : Index := Scalar.indexCast c6_i32_225
  let c0_i32_224 : BitVec 32 := 0#32
  let c0_i32_99 : BitVec 32 := 0#32
  let c1_i32_101 : BitVec 32 := 1#32
  let arg15 : BitVec 32 := Scf.iv c0_i32_99 c1_i32_101 k0_t8
  let c16_i32_223 : BitVec 32 := 16#32
  let v239 : BitVec 32 := Scalar.muli arg15 c16_i32_223
  let v240 : BitVec 32 := Scalar.addi c0_i32_224 v239
  let v242 : Index := Scalar.indexCast v240
  ![6, v242.toNat]

def k0_chk7 (v247 : IVec S16 32) : Prop :=
  (∀ a x, ((![v247] : Fin 1 → IVec S16 32) a x).toNat < S65535.size a)
theorem k0_idx7_inb : ∀ (v247 : IVec S16 32) (k0_hw7 : k0_chk7 v247), ∀ a x, ((![v247] : Fin 1 → IVec S16 32) a x).toNat < S65535.size a := fun v247 k0_hw7 => k0_hw7
def k0_off17 (k0_t8 : Fin k0_t8_loop.trips) : Fin 1 → Nat :=
  let c12288_i32_227 : BitVec 32 := 12288#32
  let c0_i32_224 : BitVec 32 := 0#32
  let c0_i32_99 : BitVec 32 := 0#32
  let c1_i32_101 : BitVec 32 := 1#32
  let arg15 : BitVec 32 := Scf.iv c0_i32_99 c1_i32_101 k0_t8
  let c16_i32_223 : BitVec 32 := 16#32
  let v239 : BitVec 32 := Scalar.muli arg15 c16_i32_223
  let v240 : BitVec 32 := Scalar.addi c0_i32_224 v239
  let v251 : BitVec 32 := Scalar.addi c12288_i32_227 v240
  let v252 : Index := Scalar.indexCast v251
  ![v252.toNat]
@[reducible] def k0_t9_loop : Scf.Loop 32 :=
  let c0_i32_103 : BitVec 32 := 0#32
  let c128_i32_104 : BitVec 32 := 128#32
  let v105 : BitVec 32 := Scalar.addi c0_i32_103 c128_i32_104
  let c1_i32_105 : BitVec 32 := 1#32
  ⟨c0_i32_103, v105, c1_i32_105⟩
def k0_off18 (k0_t9 : Fin k0_t9_loop.trips) : Fin 2 → Nat :=
  let c7_i32_225 : BitVec 32 := 7#32
  let v241 : Index := Scalar.indexCast c7_i32_225
  let c0_i32_224 : BitVec 32 := 0#32
  let c0_i32_103 : BitVec 32 := 0#32
  let c1_i32_105 : BitVec 32 := 1#32
  let arg15 : BitVec 32 := Scf.iv c0_i32_103 c1_i32_105 k0_t9
  let c16_i32_223 : BitVec 32 := 16#32
  let v239 : BitVec 32 := Scalar.muli arg15 c16_i32_223
  let v240 : BitVec 32 := Scalar.addi c0_i32_224 v239
  let v242 : Index := Scalar.indexCast v240
  ![7, v242.toNat]

def k0_chk8 (v247 : IVec S16 32) : Prop :=
  (∀ a x, ((![v247] : Fin 1 → IVec S16 32) a x).toNat < S65535.size a)
theorem k0_idx8_inb : ∀ (v247 : IVec S16 32) (k0_hw8 : k0_chk8 v247), ∀ a x, ((![v247] : Fin 1 → IVec S16 32) a x).toNat < S65535.size a := fun v247 k0_hw8 => k0_hw8
def k0_off19 (k0_t9 : Fin k0_t9_loop.trips) : Fin 1 → Nat :=
  let c14336_i32_227 : BitVec 32 := 14336#32
  let c0_i32_224 : BitVec 32 := 0#32
  let c0_i32_103 : BitVec 32 := 0#32
  let c1_i32_105 : BitVec 32 := 1#32
  let arg15 : BitVec 32 := Scf.iv c0_i32_103 c1_i32_105 k0_t9
  let c16_i32_223 : BitVec 32 := 16#32
  let v239 : BitVec 32 := Scalar.muli arg15 c16_i32_223
  let v240 : BitVec 32 := Scalar.addi c0_i32_224 v239
  let v251 : BitVec 32 := Scalar.addi c14336_i32_227 v240
  let v252 : Index := Scalar.indexCast v251
  ![v252.toNat]
def k0_off20 (i : grid0.Coords) (k0_t1 : Fin k0_t1_loop.trips) (c0_i32_107 : BitVec 32) (c0_i32_109 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_63 : BitVec 32 := 0#32
  let c0_i32_2 : BitVec 32 := 0#32
  let c1_i32 : BitVec 32 := 1#32
  let arg14 : BitVec 32 := Scf.iv c0_i32_2 c1_i32 k0_t1
  let c2_i32_62 : BitVec 32 := 2#32
  let v72 : BitVec 32 := Scalar.muli arg14 c2_i32_62
  let v73 : BitVec 32 := Scalar.addi c0_i32_63 v72
  let c0_i32_65 : BitVec 32 := 0#32
  let v75 : BitVec 1 := Scalar.cmpi .sgt v73 c0_i32_65
  let v76 : BitVec 32 := Scalar.extui v75
  let c0_i32_66 : BitVec 32 := 0#32
  let v77 : BitVec 1 := Scalar.cmpi .slt v73 c0_i32_66
  let v78 : BitVec 32 := Scalar.extui v77
  let v79 : BitVec 32 := Scalar.subi v76 v78
  let c2_i32_64 : BitVec 32 := 2#32
  let c0_i32_67 : BitVec 32 := 0#32
  let v80 : BitVec 1 := Scalar.cmpi .sgt c2_i32_64 c0_i32_67
  let v81 : BitVec 32 := Scalar.extui v80
  let c0_i32_68 : BitVec 32 := 0#32
  let v82 : BitVec 1 := Scalar.cmpi .slt c2_i32_64 c0_i32_68
  let v83 : BitVec 32 := Scalar.extui v82
  let v84 : BitVec 32 := Scalar.subi v81 v83
  let v85 : BitVec 1 := Scalar.cmpi .ne v79 v84
  let v86 : BitVec 32 := Scalar.remsi v73 c2_i32_64
  let c0_i32_69 : BitVec 32 := 0#32
  let v87 : BitVec 1 := Scalar.cmpi .ne v86 c0_i32_69
  let v88 : BitVec 1 := Scalar.andi v85 v87
  let v74 : BitVec 32 := Scalar.divsi v73 c2_i32_64
  let c1_i32_70 : BitVec 32 := 1#32
  let v89 : BitVec 32 := Scalar.subi v74 c1_i32_70
  let v90 : BitVec 32 := Scalar.select v88 v89 v74
  let c8_i32 : BitVec 32 := 8#32
  let v91 : BitVec 32 := Scalar.muli v90 c8_i32
  let v92 : BitVec 32 := Scalar.addi v2 v91
  let v106 : BitVec 32 := Scalar.addi v92 c0_i32_107
  let c4096_i32_108 : BitVec 32 := 4096#32
  let v107 : BitVec 32 := Scalar.muli v106 c4096_i32_108
  let v108 : BitVec 32 := Scalar.addi v107 c0_i32_109
  ![v108.toNat]
def k0_cond2 (k0_t1 : Fin k0_t1_loop.trips) : BitVec 1 :=
  let c0_i32_63 : BitVec 32 := 0#32
  let c0_i32_2 : BitVec 32 := 0#32
  let c1_i32 : BitVec 32 := 1#32
  let arg14 : BitVec 32 := Scf.iv c0_i32_2 c1_i32 k0_t1
  let c2_i32_62 : BitVec 32 := 2#32
  let v72 : BitVec 32 := Scalar.muli arg14 c2_i32_62
  let v73 : BitVec 32 := Scalar.addi c0_i32_63 v72
  let c2_i32_142 : BitVec 32 := 2#32
  let v162 : BitVec 32 := Scalar.addi v73 c2_i32_142
  let c32_i32 : BitVec 32 := 32#32
  let v163 : BitVec 1 := Scalar.cmpi .slt v162 c32_i32
  let v164 : BitVec 32 := Scalar.extui v163
  let c0_i32_143 : BitVec 32 := 0#32
  let v165 : BitVec 1 := Scalar.cmpi .ne v164 c0_i32_143
  v165

def k0_off21 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_63 : BitVec 32 := 0#32
  let c0_i32_2 : BitVec 32 := 0#32
  let c1_i32 : BitVec 32 := 1#32
  let arg14 : BitVec 32 := Scf.iv c0_i32_2 c1_i32 k0_t1
  let c2_i32_62 : BitVec 32 := 2#32
  let v72 : BitVec 32 := Scalar.muli arg14 c2_i32_62
  let v73 : BitVec 32 := Scalar.addi c0_i32_63 v72
  let c0_i32_65 : BitVec 32 := 0#32
  let v75 : BitVec 1 := Scalar.cmpi .sgt v73 c0_i32_65
  let v76 : BitVec 32 := Scalar.extui v75
  let c0_i32_66 : BitVec 32 := 0#32
  let v77 : BitVec 1 := Scalar.cmpi .slt v73 c0_i32_66
  let v78 : BitVec 32 := Scalar.extui v77
  let v79 : BitVec 32 := Scalar.subi v76 v78
  let c2_i32_64 : BitVec 32 := 2#32
  let c0_i32_67 : BitVec 32 := 0#32
  let v80 : BitVec 1 := Scalar.cmpi .sgt c2_i32_64 c0_i32_67
  let v81 : BitVec 32 := Scalar.extui v80
  let c0_i32_68 : BitVec 32 := 0#32
  let v82 : BitVec 1 := Scalar.cmpi .slt c2_i32_64 c0_i32_68
  let v83 : BitVec 32 := Scalar.extui v82
  let v84 : BitVec 32 := Scalar.subi v81 v83
  let v85 : BitVec 1 := Scalar.cmpi .ne v79 v84
  let v86 : BitVec 32 := Scalar.remsi v73 c2_i32_64
  let c0_i32_69 : BitVec 32 := 0#32
  let v87 : BitVec 1 := Scalar.cmpi .ne v86 c0_i32_69
  let v88 : BitVec 1 := Scalar.andi v85 v87
  let v74 : BitVec 32 := Scalar.divsi v73 c2_i32_64
  let c1_i32_70 : BitVec 32 := 1#32
  let v89 : BitVec 32 := Scalar.subi v74 c1_i32_70
  let v90 : BitVec 32 := Scalar.select v88 v89 v74
  let c8_i32 : BitVec 32 := 8#32
  let v91 : BitVec 32 := Scalar.muli v90 c8_i32
  let v92 : BitVec 32 := Scalar.addi v2 v91
  let c8_i32_223 : BitVec 32 := 8#32
  let v239 : BitVec 32 := Scalar.addi v92 c8_i32_223
  let c0_i32_224 : BitVec 32 := 0#32
  ![v239.toNat, 0]
def k0_off22 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_63 : BitVec 32 := 0#32
  let c0_i32_2 : BitVec 32 := 0#32
  let c1_i32 : BitVec 32 := 1#32
  let arg14 : BitVec 32 := Scf.iv c0_i32_2 c1_i32 k0_t1
  let c2_i32_62 : BitVec 32 := 2#32
  let v72 : BitVec 32 := Scalar.muli arg14 c2_i32_62
  let v73 : BitVec 32 := Scalar.addi c0_i32_63 v72
  let c0_i32_65 : BitVec 32 := 0#32
  let v75 : BitVec 1 := Scalar.cmpi .sgt v73 c0_i32_65
  let v76 : BitVec 32 := Scalar.extui v75
  let c0_i32_66 : BitVec 32 := 0#32
  let v77 : BitVec 1 := Scalar.cmpi .slt v73 c0_i32_66
  let v78 : BitVec 32 := Scalar.extui v77
  let v79 : BitVec 32 := Scalar.subi v76 v78
  let c2_i32_64 : BitVec 32 := 2#32
  let c0_i32_67 : BitVec 32 := 0#32
  let v80 : BitVec 1 := Scalar.cmpi .sgt c2_i32_64 c0_i32_67
  let v81 : BitVec 32 := Scalar.extui v80
  let c0_i32_68 : BitVec 32 := 0#32
  let v82 : BitVec 1 := Scalar.cmpi .slt c2_i32_64 c0_i32_68
  let v83 : BitVec 32 := Scalar.extui v82
  let v84 : BitVec 32 := Scalar.subi v81 v83
  let v85 : BitVec 1 := Scalar.cmpi .ne v79 v84
  let v86 : BitVec 32 := Scalar.remsi v73 c2_i32_64
  let c0_i32_69 : BitVec 32 := 0#32
  let v87 : BitVec 1 := Scalar.cmpi .ne v86 c0_i32_69
  let v88 : BitVec 1 := Scalar.andi v85 v87
  let v74 : BitVec 32 := Scalar.divsi v73 c2_i32_64
  let c1_i32_70 : BitVec 32 := 1#32
  let v89 : BitVec 32 := Scalar.subi v74 c1_i32_70
  let v90 : BitVec 32 := Scalar.select v88 v89 v74
  let c8_i32 : BitVec 32 := 8#32
  let v91 : BitVec 32 := Scalar.muli v90 c8_i32
  let v92 : BitVec 32 := Scalar.addi v2 v91
  let c2048_i32_144 : BitVec 32 := 2048#32
  ![v92.toNat, 2048]
@[reducible] def k0_t10_loop : Scf.Loop 32 :=
  let c0_i32_148 : BitVec 32 := 0#32
  let c128_i32_149 : BitVec 32 := 128#32
  let v171 : BitVec 32 := Scalar.addi c0_i32_148 c128_i32_149
  let c1_i32_150 : BitVec 32 := 1#32
  ⟨c0_i32_148, v171, c1_i32_150⟩
def k0_off23 (k0_t10 : Fin k0_t10_loop.trips) : Fin 2 → Nat :=
  let c0_i32_225 : BitVec 32 := 0#32
  let v241 : Index := Scalar.indexCast c0_i32_225
  let c0_i32_224 : BitVec 32 := 0#32
  let c0_i32_148 : BitVec 32 := 0#32
  let c1_i32_150 : BitVec 32 := 1#32
  let arg15 : BitVec 32 := Scf.iv c0_i32_148 c1_i32_150 k0_t10
  let c16_i32_223 : BitVec 32 := 16#32
  let v239 : BitVec 32 := Scalar.muli arg15 c16_i32_223
  let v240 : BitVec 32 := Scalar.addi c0_i32_224 v239
  let v242 : Index := Scalar.indexCast v240
  ![0, v242.toNat]

def k0_chk9 (v247 : IVec S16 32) : Prop :=
  (∀ a x, ((![v247] : Fin 1 → IVec S16 32) a x).toNat < S65535.size a)
theorem k0_idx9_inb : ∀ (v247 : IVec S16 32) (k0_hw9 : k0_chk9 v247), ∀ a x, ((![v247] : Fin 1 → IVec S16 32) a x).toNat < S65535.size a := fun v247 k0_hw9 => k0_hw9
def k0_off24 (k0_t10 : Fin k0_t10_loop.trips) : Fin 1 → Nat :=
  let c0_i32_227 : BitVec 32 := 0#32
  let c0_i32_224 : BitVec 32 := 0#32
  let c0_i32_148 : BitVec 32 := 0#32
  let c1_i32_150 : BitVec 32 := 1#32
  let arg15 : BitVec 32 := Scf.iv c0_i32_148 c1_i32_150 k0_t10
  let c16_i32_223 : BitVec 32 := 16#32
  let v239 : BitVec 32 := Scalar.muli arg15 c16_i32_223
  let v240 : BitVec 32 := Scalar.addi c0_i32_224 v239
  let v251 : BitVec 32 := Scalar.addi c0_i32_227 v240
  let v252 : Index := Scalar.indexCast v251
  ![v252.toNat]
@[reducible] def k0_t11_loop : Scf.Loop 32 :=
  let c0_i32_152 : BitVec 32 := 0#32
  let c128_i32_153 : BitVec 32 := 128#32
  let v172 : BitVec 32 := Scalar.addi c0_i32_152 c128_i32_153
  let c1_i32_154 : BitVec 32 := 1#32
  ⟨c0_i32_152, v172, c1_i32_154⟩
def k0_off25 (k0_t11 : Fin k0_t11_loop.trips) : Fin 2 → Nat :=
  let c1_i32_225 : BitVec 32 := 1#32
  let v241 : Index := Scalar.indexCast c1_i32_225
  let c0_i32_224 : BitVec 32 := 0#32
  let c0_i32_152 : BitVec 32 := 0#32
  let c1_i32_154 : BitVec 32 := 1#32
  let arg15 : BitVec 32 := Scf.iv c0_i32_152 c1_i32_154 k0_t11
  let c16_i32_223 : BitVec 32 := 16#32
  let v239 : BitVec 32 := Scalar.muli arg15 c16_i32_223
  let v240 : BitVec 32 := Scalar.addi c0_i32_224 v239
  let v242 : Index := Scalar.indexCast v240
  ![1, v242.toNat]

def k0_chk10 (v247 : IVec S16 32) : Prop :=
  (∀ a x, ((![v247] : Fin 1 → IVec S16 32) a x).toNat < S65535.size a)
theorem k0_idx10_inb : ∀ (v247 : IVec S16 32) (k0_hw10 : k0_chk10 v247), ∀ a x, ((![v247] : Fin 1 → IVec S16 32) a x).toNat < S65535.size a := fun v247 k0_hw10 => k0_hw10
def k0_off26 (k0_t11 : Fin k0_t11_loop.trips) : Fin 1 → Nat :=
  let c2048_i32_227 : BitVec 32 := 2048#32
  let c0_i32_224 : BitVec 32 := 0#32
  let c0_i32_152 : BitVec 32 := 0#32
  let c1_i32_154 : BitVec 32 := 1#32
  let arg15 : BitVec 32 := Scf.iv c0_i32_152 c1_i32_154 k0_t11
  let c16_i32_223 : BitVec 32 := 16#32
  let v239 : BitVec 32 := Scalar.muli arg15 c16_i32_223
  let v240 : BitVec 32 := Scalar.addi c0_i32_224 v239
  let v251 : BitVec 32 := Scalar.addi c2048_i32_227 v240
  let v252 : Index := Scalar.indexCast v251
  ![v252.toNat]
@[reducible] def k0_t12_loop : Scf.Loop 32 :=
  let c0_i32_156 : BitVec 32 := 0#32
  let c128_i32_157 : BitVec 32 := 128#32
  let v173 : BitVec 32 := Scalar.addi c0_i32_156 c128_i32_157
  let c1_i32_158 : BitVec 32 := 1#32
  ⟨c0_i32_156, v173, c1_i32_158⟩
def k0_off27 (k0_t12 : Fin k0_t12_loop.trips) : Fin 2 → Nat :=
  let c2_i32_225 : BitVec 32 := 2#32
  let v241 : Index := Scalar.indexCast c2_i32_225
  let c0_i32_224 : BitVec 32 := 0#32
  let c0_i32_156 : BitVec 32 := 0#32
  let c1_i32_158 : BitVec 32 := 1#32
  let arg15 : BitVec 32 := Scf.iv c0_i32_156 c1_i32_158 k0_t12
  let c16_i32_223 : BitVec 32 := 16#32
  let v239 : BitVec 32 := Scalar.muli arg15 c16_i32_223
  let v240 : BitVec 32 := Scalar.addi c0_i32_224 v239
  let v242 : Index := Scalar.indexCast v240
  ![2, v242.toNat]

def k0_chk11 (v247 : IVec S16 32) : Prop :=
  (∀ a x, ((![v247] : Fin 1 → IVec S16 32) a x).toNat < S65535.size a)
theorem k0_idx11_inb : ∀ (v247 : IVec S16 32) (k0_hw11 : k0_chk11 v247), ∀ a x, ((![v247] : Fin 1 → IVec S16 32) a x).toNat < S65535.size a := fun v247 k0_hw11 => k0_hw11
def k0_off28 (k0_t12 : Fin k0_t12_loop.trips) : Fin 1 → Nat :=
  let c4096_i32_227 : BitVec 32 := 4096#32
  let c0_i32_224 : BitVec 32 := 0#32
  let c0_i32_156 : BitVec 32 := 0#32
  let c1_i32_158 : BitVec 32 := 1#32
  let arg15 : BitVec 32 := Scf.iv c0_i32_156 c1_i32_158 k0_t12
  let c16_i32_223 : BitVec 32 := 16#32
  let v239 : BitVec 32 := Scalar.muli arg15 c16_i32_223
  let v240 : BitVec 32 := Scalar.addi c0_i32_224 v239
  let v251 : BitVec 32 := Scalar.addi c4096_i32_227 v240
  let v252 : Index := Scalar.indexCast v251
  ![v252.toNat]
@[reducible] def k0_t13_loop : Scf.Loop 32 :=
  let c0_i32_160 : BitVec 32 := 0#32
  let c128_i32_161 : BitVec 32 := 128#32
  let v174 : BitVec 32 := Scalar.addi c0_i32_160 c128_i32_161
  let c1_i32_162 : BitVec 32 := 1#32
  ⟨c0_i32_160, v174, c1_i32_162⟩
def k0_off29 (k0_t13 : Fin k0_t13_loop.trips) : Fin 2 → Nat :=
  let c3_i32_225 : BitVec 32 := 3#32
  let v241 : Index := Scalar.indexCast c3_i32_225
  let c0_i32_224 : BitVec 32 := 0#32
  let c0_i32_160 : BitVec 32 := 0#32
  let c1_i32_162 : BitVec 32 := 1#32
  let arg15 : BitVec 32 := Scf.iv c0_i32_160 c1_i32_162 k0_t13
  let c16_i32_223 : BitVec 32 := 16#32
  let v239 : BitVec 32 := Scalar.muli arg15 c16_i32_223
  let v240 : BitVec 32 := Scalar.addi c0_i32_224 v239
  let v242 : Index := Scalar.indexCast v240
  ![3, v242.toNat]

def k0_chk12 (v247 : IVec S16 32) : Prop :=
  (∀ a x, ((![v247] : Fin 1 → IVec S16 32) a x).toNat < S65535.size a)
theorem k0_idx12_inb : ∀ (v247 : IVec S16 32) (k0_hw12 : k0_chk12 v247), ∀ a x, ((![v247] : Fin 1 → IVec S16 32) a x).toNat < S65535.size a := fun v247 k0_hw12 => k0_hw12
def k0_off30 (k0_t13 : Fin k0_t13_loop.trips) : Fin 1 → Nat :=
  let c6144_i32_227 : BitVec 32 := 6144#32
  let c0_i32_224 : BitVec 32 := 0#32
  let c0_i32_160 : BitVec 32 := 0#32
  let c1_i32_162 : BitVec 32 := 1#32
  let arg15 : BitVec 32 := Scf.iv c0_i32_160 c1_i32_162 k0_t13
  let c16_i32_223 : BitVec 32 := 16#32
  let v239 : BitVec 32 := Scalar.muli arg15 c16_i32_223
  let v240 : BitVec 32 := Scalar.addi c0_i32_224 v239
  let v251 : BitVec 32 := Scalar.addi c6144_i32_227 v240
  let v252 : Index := Scalar.indexCast v251
  ![v252.toNat]
@[reducible] def k0_t14_loop : Scf.Loop 32 :=
  let c0_i32_164 : BitVec 32 := 0#32
  let c128_i32_165 : BitVec 32 := 128#32
  let v175 : BitVec 32 := Scalar.addi c0_i32_164 c128_i32_165
  let c1_i32_166 : BitVec 32 := 1#32
  ⟨c0_i32_164, v175, c1_i32_166⟩
def k0_off31 (k0_t14 : Fin k0_t14_loop.trips) : Fin 2 → Nat :=
  let c4_i32_225 : BitVec 32 := 4#32
  let v241 : Index := Scalar.indexCast c4_i32_225
  let c0_i32_224 : BitVec 32 := 0#32
  let c0_i32_164 : BitVec 32 := 0#32
  let c1_i32_166 : BitVec 32 := 1#32
  let arg15 : BitVec 32 := Scf.iv c0_i32_164 c1_i32_166 k0_t14
  let c16_i32_223 : BitVec 32 := 16#32
  let v239 : BitVec 32 := Scalar.muli arg15 c16_i32_223
  let v240 : BitVec 32 := Scalar.addi c0_i32_224 v239
  let v242 : Index := Scalar.indexCast v240
  ![4, v242.toNat]

def k0_chk13 (v247 : IVec S16 32) : Prop :=
  (∀ a x, ((![v247] : Fin 1 → IVec S16 32) a x).toNat < S65535.size a)
theorem k0_idx13_inb : ∀ (v247 : IVec S16 32) (k0_hw13 : k0_chk13 v247), ∀ a x, ((![v247] : Fin 1 → IVec S16 32) a x).toNat < S65535.size a := fun v247 k0_hw13 => k0_hw13
def k0_off32 (k0_t14 : Fin k0_t14_loop.trips) : Fin 1 → Nat :=
  let c8192_i32_227 : BitVec 32 := 8192#32
  let c0_i32_224 : BitVec 32 := 0#32
  let c0_i32_164 : BitVec 32 := 0#32
  let c1_i32_166 : BitVec 32 := 1#32
  let arg15 : BitVec 32 := Scf.iv c0_i32_164 c1_i32_166 k0_t14
  let c16_i32_223 : BitVec 32 := 16#32
  let v239 : BitVec 32 := Scalar.muli arg15 c16_i32_223
  let v240 : BitVec 32 := Scalar.addi c0_i32_224 v239
  let v251 : BitVec 32 := Scalar.addi c8192_i32_227 v240
  let v252 : Index := Scalar.indexCast v251
  ![v252.toNat]
@[reducible] def k0_t15_loop : Scf.Loop 32 :=
  let c0_i32_168 : BitVec 32 := 0#32
  let c128_i32_169 : BitVec 32 := 128#32
  let v176 : BitVec 32 := Scalar.addi c0_i32_168 c128_i32_169
  let c1_i32_170 : BitVec 32 := 1#32
  ⟨c0_i32_168, v176, c1_i32_170⟩
def k0_off33 (k0_t15 : Fin k0_t15_loop.trips) : Fin 2 → Nat :=
  let c5_i32_225 : BitVec 32 := 5#32
  let v241 : Index := Scalar.indexCast c5_i32_225
  let c0_i32_224 : BitVec 32 := 0#32
  let c0_i32_168 : BitVec 32 := 0#32
  let c1_i32_170 : BitVec 32 := 1#32
  let arg15 : BitVec 32 := Scf.iv c0_i32_168 c1_i32_170 k0_t15
  let c16_i32_223 : BitVec 32 := 16#32
  let v239 : BitVec 32 := Scalar.muli arg15 c16_i32_223
  let v240 : BitVec 32 := Scalar.addi c0_i32_224 v239
  let v242 : Index := Scalar.indexCast v240
  ![5, v242.toNat]

def k0_chk14 (v247 : IVec S16 32) : Prop :=
  (∀ a x, ((![v247] : Fin 1 → IVec S16 32) a x).toNat < S65535.size a)
theorem k0_idx14_inb : ∀ (v247 : IVec S16 32) (k0_hw14 : k0_chk14 v247), ∀ a x, ((![v247] : Fin 1 → IVec S16 32) a x).toNat < S65535.size a := fun v247 k0_hw14 => k0_hw14
def k0_off34 (k0_t15 : Fin k0_t15_loop.trips) : Fin 1 → Nat :=
  let c10240_i32_227 : BitVec 32 := 10240#32
  let c0_i32_224 : BitVec 32 := 0#32
  let c0_i32_168 : BitVec 32 := 0#32
  let c1_i32_170 : BitVec 32 := 1#32
  let arg15 : BitVec 32 := Scf.iv c0_i32_168 c1_i32_170 k0_t15
  let c16_i32_223 : BitVec 32 := 16#32
  let v239 : BitVec 32 := Scalar.muli arg15 c16_i32_223
  let v240 : BitVec 32 := Scalar.addi c0_i32_224 v239
  let v251 : BitVec 32 := Scalar.addi c10240_i32_227 v240
  let v252 : Index := Scalar.indexCast v251
  ![v252.toNat]
@[reducible] def k0_t16_loop : Scf.Loop 32 :=
  let c0_i32_172 : BitVec 32 := 0#32
  let c128_i32_173 : BitVec 32 := 128#32
  let v177 : BitVec 32 := Scalar.addi c0_i32_172 c128_i32_173
  let c1_i32_174 : BitVec 32 := 1#32
  ⟨c0_i32_172, v177, c1_i32_174⟩
def k0_off35 (k0_t16 : Fin k0_t16_loop.trips) : Fin 2 → Nat :=
  let c6_i32_225 : BitVec 32 := 6#32
  let v241 : Index := Scalar.indexCast c6_i32_225
  let c0_i32_224 : BitVec 32 := 0#32
  let c0_i32_172 : BitVec 32 := 0#32
  let c1_i32_174 : BitVec 32 := 1#32
  let arg15 : BitVec 32 := Scf.iv c0_i32_172 c1_i32_174 k0_t16
  let c16_i32_223 : BitVec 32 := 16#32
  let v239 : BitVec 32 := Scalar.muli arg15 c16_i32_223
  let v240 : BitVec 32 := Scalar.addi c0_i32_224 v239
  let v242 : Index := Scalar.indexCast v240
  ![6, v242.toNat]

def k0_chk15 (v247 : IVec S16 32) : Prop :=
  (∀ a x, ((![v247] : Fin 1 → IVec S16 32) a x).toNat < S65535.size a)
theorem k0_idx15_inb : ∀ (v247 : IVec S16 32) (k0_hw15 : k0_chk15 v247), ∀ a x, ((![v247] : Fin 1 → IVec S16 32) a x).toNat < S65535.size a := fun v247 k0_hw15 => k0_hw15
def k0_off36 (k0_t16 : Fin k0_t16_loop.trips) : Fin 1 → Nat :=
  let c12288_i32_227 : BitVec 32 := 12288#32
  let c0_i32_224 : BitVec 32 := 0#32
  let c0_i32_172 : BitVec 32 := 0#32
  let c1_i32_174 : BitVec 32 := 1#32
  let arg15 : BitVec 32 := Scf.iv c0_i32_172 c1_i32_174 k0_t16
  let c16_i32_223 : BitVec 32 := 16#32
  let v239 : BitVec 32 := Scalar.muli arg15 c16_i32_223
  let v240 : BitVec 32 := Scalar.addi c0_i32_224 v239
  let v251 : BitVec 32 := Scalar.addi c12288_i32_227 v240
  let v252 : Index := Scalar.indexCast v251
  ![v252.toNat]
@[reducible] def k0_t17_loop : Scf.Loop 32 :=
  let c0_i32_176 : BitVec 32 := 0#32
  let c128_i32_177 : BitVec 32 := 128#32
  let v178 : BitVec 32 := Scalar.addi c0_i32_176 c128_i32_177
  let c1_i32_178 : BitVec 32 := 1#32
  ⟨c0_i32_176, v178, c1_i32_178⟩
def k0_off37 (k0_t17 : Fin k0_t17_loop.trips) : Fin 2 → Nat :=
  let c7_i32_225 : BitVec 32 := 7#32
  let v241 : Index := Scalar.indexCast c7_i32_225
  let c0_i32_224 : BitVec 32 := 0#32
  let c0_i32_176 : BitVec 32 := 0#32
  let c1_i32_178 : BitVec 32 := 1#32
  let arg15 : BitVec 32 := Scf.iv c0_i32_176 c1_i32_178 k0_t17
  let c16_i32_223 : BitVec 32 := 16#32
  let v239 : BitVec 32 := Scalar.muli arg15 c16_i32_223
  let v240 : BitVec 32 := Scalar.addi c0_i32_224 v239
  let v242 : Index := Scalar.indexCast v240
  ![7, v242.toNat]

def k0_chk16 (v247 : IVec S16 32) : Prop :=
  (∀ a x, ((![v247] : Fin 1 → IVec S16 32) a x).toNat < S65535.size a)
theorem k0_idx16_inb : ∀ (v247 : IVec S16 32) (k0_hw16 : k0_chk16 v247), ∀ a x, ((![v247] : Fin 1 → IVec S16 32) a x).toNat < S65535.size a := fun v247 k0_hw16 => k0_hw16
def k0_off38 (k0_t17 : Fin k0_t17_loop.trips) : Fin 1 → Nat :=
  let c14336_i32_227 : BitVec 32 := 14336#32
  let c0_i32_224 : BitVec 32 := 0#32
  let c0_i32_176 : BitVec 32 := 0#32
  let c1_i32_178 : BitVec 32 := 1#32
  let arg15 : BitVec 32 := Scf.iv c0_i32_176 c1_i32_178 k0_t17
  let c16_i32_223 : BitVec 32 := 16#32
  let v239 : BitVec 32 := Scalar.muli arg15 c16_i32_223
  let v240 : BitVec 32 := Scalar.addi c0_i32_224 v239
  let v251 : BitVec 32 := Scalar.addi c14336_i32_227 v240
  let v252 : Index := Scalar.indexCast v251
  ![v252.toNat]
def k0_cond4 (k0_t1 : Fin k0_t1_loop.trips) : BitVec 1 :=
  let c0_i32_63 : BitVec 32 := 0#32
  let c0_i32_2 : BitVec 32 := 0#32
  let c1_i32 : BitVec 32 := 1#32
  let arg14 : BitVec 32 := Scf.iv c0_i32_2 c1_i32 k0_t1
  let c2_i32_62 : BitVec 32 := 2#32
  let v72 : BitVec 32 := Scalar.muli arg14 c2_i32_62
  let v73 : BitVec 32 := Scalar.addi c0_i32_63 v72
  let c2_i32_220 : BitVec 32 := 2#32
  let v235 : BitVec 32 := Scalar.addi v73 c2_i32_220
  let c32_i32_221 : BitVec 32 := 32#32
  let v236 : BitVec 1 := Scalar.cmpi .slt v235 c32_i32_221
  let v237 : BitVec 32 := Scalar.extui v236
  let c0_i32_222 : BitVec 32 := 0#32
  let v238 : BitVec 1 := Scalar.cmpi .ne v237 c0_i32_222
  v238

def k0_off39 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_63 : BitVec 32 := 0#32
  let c0_i32_2 : BitVec 32 := 0#32
  let c1_i32 : BitVec 32 := 1#32
  let arg14 : BitVec 32 := Scf.iv c0_i32_2 c1_i32 k0_t1
  let c2_i32_62 : BitVec 32 := 2#32
  let v72 : BitVec 32 := Scalar.muli arg14 c2_i32_62
  let v73 : BitVec 32 := Scalar.addi c0_i32_63 v72
  let c0_i32_65 : BitVec 32 := 0#32
  let v75 : BitVec 1 := Scalar.cmpi .sgt v73 c0_i32_65
  let v76 : BitVec 32 := Scalar.extui v75
  let c0_i32_66 : BitVec 32 := 0#32
  let v77 : BitVec 1 := Scalar.cmpi .slt v73 c0_i32_66
  let v78 : BitVec 32 := Scalar.extui v77
  let v79 : BitVec 32 := Scalar.subi v76 v78
  let c2_i32_64 : BitVec 32 := 2#32
  let c0_i32_67 : BitVec 32 := 0#32
  let v80 : BitVec 1 := Scalar.cmpi .sgt c2_i32_64 c0_i32_67
  let v81 : BitVec 32 := Scalar.extui v80
  let c0_i32_68 : BitVec 32 := 0#32
  let v82 : BitVec 1 := Scalar.cmpi .slt c2_i32_64 c0_i32_68
  let v83 : BitVec 32 := Scalar.extui v82
  let v84 : BitVec 32 := Scalar.subi v81 v83
  let v85 : BitVec 1 := Scalar.cmpi .ne v79 v84
  let v86 : BitVec 32 := Scalar.remsi v73 c2_i32_64
  let c0_i32_69 : BitVec 32 := 0#32
  let v87 : BitVec 1 := Scalar.cmpi .ne v86 c0_i32_69
  let v88 : BitVec 1 := Scalar.andi v85 v87
  let v74 : BitVec 32 := Scalar.divsi v73 c2_i32_64
  let c1_i32_70 : BitVec 32 := 1#32
  let v89 : BitVec 32 := Scalar.subi v74 c1_i32_70
  let v90 : BitVec 32 := Scalar.select v88 v89 v74
  let c8_i32 : BitVec 32 := 8#32
  let v91 : BitVec 32 := Scalar.muli v90 c8_i32
  let v92 : BitVec 32 := Scalar.addi v2 v91
  let c8_i32_223 : BitVec 32 := 8#32
  let v239 : BitVec 32 := Scalar.addi v92 c8_i32_223
  let c2048_i32_224 : BitVec 32 := 2048#32
  ![v239.toNat, 2048]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x4096 : Shape := ⟨2, ![4096, 4096]⟩
abbrev S65536x1 : Shape := ⟨2, ![65536, 1]⟩
abbrev S_ : Shape := ⟨0, ![]⟩
abbrev S4096x4096x1 : Shape := ⟨3, ![4096, 4096, 1]⟩
abbrev S1 : Shape := ⟨1, ![1]⟩
abbrev S1x1x1 : Shape := ⟨3, ![1, 1, 1]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .i32⟩
  | .hbm, ⟨1, _⟩ => ⟨S65536x1, .f32⟩
  | .hbm, ⟨2, _⟩ => ⟨S_, .i32⟩
  | .hbm, ⟨3, _⟩ => ⟨S4096x4096, .i32⟩
  | .hbm, ⟨4, _⟩ => ⟨S4096x4096, .i1⟩
  | .hbm, ⟨5, _⟩ => ⟨S_, .i32⟩
  | .hbm, ⟨6, _⟩ => ⟨S4096x4096, .i32⟩
  | .hbm, ⟨7, _⟩ => ⟨S4096x4096, .i32⟩
  | .hbm, ⟨8, _⟩ => ⟨S4096x4096, .i32⟩
  | .hbm, ⟨9, _⟩ => ⟨S4096x4096x1, .i32⟩
  | .hbm, ⟨10, _⟩ => ⟨S1, .i32⟩
  | .hbm, ⟨11, _⟩ => ⟨S_, .i32⟩
  | .hbm, ⟨12, _⟩ => ⟨S4096x4096x1, .i32⟩
  | .hbm, ⟨13, _⟩ => ⟨S4096x4096x1, .i1⟩
  | .hbm, ⟨14, _⟩ => ⟨S1x1x1, .i32⟩
  | .hbm, ⟨15, _⟩ => ⟨S4096x4096x1, .i32⟩
  | .hbm, ⟨16, _⟩ => ⟨S4096x4096x1, .i1⟩
  | .hbm, ⟨17, _⟩ => ⟨S4096x4096x1, .i1⟩
  | .hbm, ⟨18, _⟩ => ⟨S_, .i1⟩
  | .hbm, ⟨19, _⟩ => ⟨S4096x4096, .i1⟩
  | .hbm, ⟨20, _⟩ => ⟨S4096x4096x1, .f32⟩
  | .hbm, ⟨21, _⟩ => ⟨S4096x4096x1, .i1⟩
  | .hbm, ⟨22, _⟩ => ⟨S_, .f32⟩
  | .hbm, ⟨23, _⟩ => ⟨S4096x4096x1, .f32⟩
  | .hbm, ⟨24, _⟩ => ⟨S4096x4096x1, .f32⟩
  | _, _ => ⟨S4096x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Setup.lean ====
/-
  The program as the SparseCore launch theorem sees it, the resource algebra of the proof, the names of the buffers,
  and the values the program computes.

  The kernel looks 4096 x 4096 codes up in a table. `outVal` is the array the two SparseCores leave: word `j` of the
  result is the table's entry for the code at row `j / 4096`, column `j % 4096`. Entry 65535 is not read from the table:
  the kernel has that one entry as a constant.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ValueIdxCore
public import Idealize.ShloMosaic.Lib.Batch
public import Idealize.ShloMosaic.Lib.Writes
public import Idealize.ShloMosaic.Lib.Tactic

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The one call runs sixteen tiles on each SparseCore, -/
theorem nSub_zero : (K (F := F)).nSub 0 = 16 := rfl
/-- and two SparseCores. -/
theorem nCore_zero : (K (F := F)).nCore 0 = 2 := rfl

/-- The side conditions of the launch theorem on the program's own names. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the launch's handshakes beside the counters of the copies -/

abbrev UH : Type := URounds (GSem nD τ sig) ℕ
abbrev UU : Type := UH × Counters

abbrev EH : Emb UH (MT nD τ sig (HIx 1) (Elt F) ℕ UU ℕ) := embL

/-! ## The buffers -/

/-- The codes, the table as one column, the table as a row, the flat result and the result, on device `d`. -/
abbrev eLoc (d : Dev nD) : Loc nD τ sig := (SparseCore.T d).loc main_arg0
abbrev cLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The three arrays in HBM as a tile addresses them. -/
abbrev eM : Memref sig .scVector .hbm S4096x4096 .i32 := Memref.whole main_arg0_scv
abbrev tM : Memref sig .scVector .hbm S65536 .f32 := Memref.whole main_v0_scv
abbrev oM : Memref sig .scVector .hbm S16777216 .f32 := Memref.whole main_v1_scv
/-- A tile's own memory: the table, the two blocks of codes, the two blocks of results. -/
abbrev lutM : Memref sig .scVector .vmem S65535 .f32 := Memref.whole cc0_scratch0
abbrev idx0M : Memref sig .scVector .vmem S8x2048 .i32 := Memref.whole cc0_scratch1
abbrev idx1M : Memref sig .scVector .vmem S8x2048 .i32 := Memref.whole cc0_scratch2
abbrev val0M : Memref sig .scVector .vmem S16384 .f32 := Memref.whole cc0_scratch3
abbrev val1M : Memref sig .scVector .vmem S16384 .f32 := Memref.whole cc0_scratch4

/-- The SparseCore and the tile of a grid point. -/
abbrev cV (L : grid0.Coords) : Fin τ.nSC := (L 0).castLE hcore0
abbrev jV (L : grid0.Coords) : Fin τ.nSub := (L 1).castLE hsub0
/-- The thread of tile `L` of device `d`. -/
abbrev thr (d : Dev nD) (L : grid0.Coords) : Thread nD τ := V d (cV L) (jV L)

/-! ## The values -/

section Values
variable [FloatOps F]

/-- What the kernel takes for a code: the table's entry, and its own constant for 65535 and above. -/
def entry (ft : S65536.Idx → F .f32) (w : BitVec 32) : F .f32 :=
  if h : w.toNat < 65535 then ft (ix1 ⟨w.toNat, by omega⟩) else Scalar.ofBits .f32 0x3ED34FD3#32

/-- The row of codes word `j` of the flat result is for, and the column. -/
abbrev codeIx (j : ℕ) (h : j < 16777216) : S4096x4096.Idx := ix2 ⟨j / 4096, by omega⟩ ⟨j % 4096, Nat.mod_lt _ (by norm_num)⟩

/-- The flat result: word `j` is the entry of the code at row `j / 4096`, column `j % 4096`. -/
def outVal (fe : S4096x4096.Idx → BitVec 32) (ft : S65536.Idx → F .f32) : S16777216.Idx → F .f32 :=
  fun j => entry ft (fe (codeIx (j 0).val (j 0).isLt))

/-- Trip `t` of a tile's loop handles eight rows of codes in two halves: half `h` of the block, as the tile's memory
    holds it. `r0` is the tile's first row. -/
def codeBlk (fe : S4096x4096.Idx → BitVec 32) (r0 : ℕ) (h : ℕ) : S8x2048.Idx → BitVec 32 :=
  fun x => if hx : r0 + (x 0).val < 4096 ∧ 2048 * h + (x 1).val < 4096 then fe (ix2 ⟨r0 + (x 0).val, hx.1⟩ ⟨2048 * h + (x 1).val, hx.2⟩) else 0#32

/-- The block of results a block of codes gives: word `y` is the entry of code `(y / 2048, y % 2048)`. -/
def resBlk (ft : S65536.Idx → F .f32) (g : S8x2048.Idx → BitVec 32) : S16384.Idx → F .f32 :=
  fun y => entry ft (g (ix2 ⟨(y 0).val / 2048, by have : (y 0).val < 16384 := (y 0).isLt; omega⟩ ⟨(y 0).val % 2048, Nat.mod_lt _ (by norm_num)⟩))

end Values

end Cert.Proof.Lookup

end
-- ==== Proof.Gather.lean ====
/-
  The loops that look codes up. One loop takes one row of 2048 codes, sixteen at a time, to the 2048 words of results
  beside it; the kernel has sixteen copies of it, eight per half block, which differ in the row and the buffers alone.
  `gatherStep` is the loop's region over any two buffers and any two positions, and `gather_loop` its run.
-/
module

public import proofs.«01_k».proof.Proof.Setup

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

local notation "𝕄" => MT nD τ sig (HIx 1) (Elt F) ℕ UU ℕ

/-- A step of a lookup loop: sixteen codes read at `oi`, their entries taken from the table, stored at `ov`. -/
def gatherStep (L : grid0.Coords) (idx : Memref sig .scVector .vmem S8x2048 .i32) (lut : Memref sig .scVector .vmem S65535 .f32)
    (val : Memref sig .scVector .vmem S16384 .f32) (oi : Fin 2 → ℕ) (hi : ∀ a, oi a + S1x16.size a ≤ S8x2048.size a)
    (ov : Fin 1 → ℕ) (hv : ∀ a, ov a + S16.size a ≤ S16384.size a) :
    Prog (TpuEff nD τ sig (Elt F) Λ₀ (.scVector (cV L) (jV L))) Unit := do
  let c : Vec F S1x16 .i32 ← Prog.lift (.load idx (Rect.unit (s := S8x2048) oi S1x16.size hi).toLoadRect (View.loadsAt_vmem h_S1x16))
  have p : Vec F S16 .i32 := k0_pay3 c
  have hw : k0_chk1 p := (← Prog.lift (TpuEff.assume (k0_chk1 p) (k0_chk1.dec p))).down
  let w : Vec F S16 .f32 ← SparseCore.vectorLoadIdx lut ![p] (k0_idx1_inb p hw) (View.loads_vmem h_S65535)
  let _z : Vec F S16 .f32 ← Prog.lift (.load val (Rect.unit (s := S16384) ov S16.size hv).toLoadRect (View.loadsAt_vmem h_S16))
  Prog.lift (.store val (Rect.unit (s := S16384) ov S16.size hv) (k0_pay4 c w) Finset.univ (View.stores_vmem_bits_univ h_S16 rfl) (.inl rfl))
  pure ⟨⟩

/-! ## The values of a step -/

/-- Lane `x` of the sixteen codes as the step reshapes them. -/
theorem codes_lane (c : Vec F S1x16 .i32) (x : S16.Idx) : k0_pay1 c x = c (ix2 0 (x 0)) := by
  show c (Shape.reshapeEquiv _ x) = _
  refine congrArg c (Shape.reshapeEquiv_eq_of_rowMajor _ ?_)
  have h1 := Shape.rowMajor_val_one x
  have h2 := Shape.rowMajor_val_two (ix2 (n0 := 1) (n1 := 16) 0 (x 0))
  refine h2.trans (Eq.trans ?_ h1.symm)
  show 0 * 16 + (x 0).val = (x 0).val
  omega

/-- A code below 65536 is below 65535 as the step compares it (signed) exactly when it is as a natural number. -/
theorem slt_top {w : BitVec 32} (h : w.toNat < 65536) : (IntOp.cmpi .slt w 65535#32 = 1#1) ↔ w.toNat < 65535 := by
  have : (w.slt 65535#32) = decide (w.toNat < 65535) := by
    rw [BitVec.slt_eq_decide, BitVec.toInt_eq_toNat_of_lt (by omega)]
    simp only [decide_eq_decide]
    show ((w.toNat : ℕ) : ℤ) < 65535 ↔ _
    omega
  show BitVec.ofBool (w.slt 65535#32) = 1#1 ↔ _
  rw [this]
  by_cases hw : w.toNat < 65535 <;> simp [hw]

/-- The word a step looks up for lane `x`: the code, or zero in place of one that is not below 65535. -/
theorem index_lane (c : Vec F S1x16 .i32) (x : S16.Idx) (h : (c (ix2 0 (x 0)) : BitVec 32).toNat < 65536) :
    k0_pay3 c x = if (c (ix2 0 (x 0)) : BitVec 32).toNat < 65535 then c (ix2 0 (x 0)) else 0#32 := by
  show (if IntOp.cmpi .slt (k0_pay1 c x) 65535#32 = 1#1 then k0_pay1 c x else 0#32) = _
  rw [codes_lane]
  simp only [slt_top h]

/-- The step's check passes: what it looks up is inside the table. -/
theorem check_holds (c : Vec F S1x16 .i32) (h : ∀ x, (c x : BitVec 32).toNat < 65536) : k0_chk1 (k0_pay3 c) := by
  intro a x
  obtain rfl : a = 0 := Subsingleton.elim _ _
  show (k0_pay3 c x : BitVec 32).toNat < 65535
  rw [index_lane c x (h _)]
  split
  · assumption
  · norm_num

/-- What a step stores in lane `x`: the entry of the lane's code. -/
theorem stored_lane (c : Vec F S1x16 .i32) (h : ∀ x, (c x : BitVec 32).toNat < 65536) (fl : S65535.Idx → F .f32) (ft : S65536.Idx → F .f32)
    (hl : ∀ j : S65535.Idx, fl j = ft (ix1 ⟨(j 0).val, Nat.lt_succ_of_lt (j 0).isLt⟩))
    (hw : ∀ a x, ((![k0_pay3 c] : Fin 1 → IVec S16 32) a x).toNat < S65535.size a) (x : S16.Idx) :
    k0_pay4 c (loadIdx (F := F) (e := .f32) fl ![k0_pay3 c] hw) x = entry ft (c (ix2 0 (x 0))) := by
  show (if IntOp.cmpi .slt (k0_pay1 c x) 65535#32 = 1#1 then loadIdx (F := F) (e := .f32) fl ![k0_pay3 c] hw x
    else Scalar.ofBits .f32 0x3ED34FD3#32) = _
  rw [codes_lane]
  simp only [slt_top (h _)]
  unfold entry
  split
  · rename_i hlt
    show fl (idxAt ![k0_pay3 c] hw x) = _
    rw [hl]
    refine congrArg ft (funext fun a => ?_)
    obtain rfl : a = 0 := Subsingleton.elim _ _
    refine Fin.ext ?_
    show (k0_pay3 c x : BitVec 32).toNat = _
    rw [index_lane c x (h _), if_pos hlt]
  · rfl

/-! ## Reading a block after a store of sixteen words -/

/-- A buffer of 16384 words after sixteen were stored at `o`, read at `y`. -/
theorem read_store16 (val : Memref sig .scVector .vmem S16384 .f32) (o : Fin 1 → ℕ) (hv : ∀ a, o a + S16.size a ≤ S16384.size a)
    (f : val.view.ty.Contents (Elt F)) (w : S16.Idx → F .f32) (y : S16384.Idx) :
    val.view.read (Elt F) ((val.access (Rect.unit (s := S16384) o S16.size hv)).write (Elt F) f w Finset.univ) y
      = if h : o 0 ≤ (y 0).val ∧ (y 0).val < o 0 + 16 then w (ix1 ⟨(y 0).val - o 0, by omega⟩) else val.view.read (Elt F) f y := by
  by_cases h : o 0 ≤ (y 0).val ∧ (y 0).val < o 0 + 16
  · rw [dif_pos h]
    have hy : y = (Rect.unit (s := S16384) o S16.size hv).emb (ix1 (n := 16) ⟨(y 0).val - o 0, by omega⟩) := by
      funext a
      obtain rfl : a = 0 := Subsingleton.elim _ _
      refine Fin.ext ?_
      rw [Rect.emb_apply]
      show (y 0).val = o 0 + 1 * ((y 0).val - o 0)
      omega
    conv_lhs => rw [hy]
    exact View.read_slice_write_emb (v := val.view) (Val := Elt F) (Rect.unit (s := S16384) o S16.size hv) f w (Finset.mem_univ _)
  · rw [dif_neg h]
    refine View.read_slice_write_of_not_mem (v := val.view) (Val := Elt F) (Rect.unit (s := S16384) o S16.size hv) f w Finset.univ ?_
    intro hm
    obtain ⟨x, -, rfl⟩ := Finset.mem_map.mp hm
    have hx : (x 0).val < 16 := (x 0).isLt
    have he : ((Rect.unit (s := S16384) o S16.size hv).emb x 0).val = o 0 + 1 * (x 0).val := Rect.emb_apply _ _ _
    exact h (by rw [he]; omega)

/-! ## The loop -/

/-- One row's loop: from the row `s` of the codes and a block of results right below word `2048 s` to the block right
    below word `2048 (s + 1)`. -/
theorem gather_loop (d : Dev nD) (L : grid0.Coords) {idx : Memref sig .scVector .vmem S8x2048 .i32} {lut : Memref sig .scVector .vmem S65535 .f32}
    {val : Memref sig .scVector .vmem S16384 .f32} (s : ℕ) (hs : s < 8) {lp : Scf.Loop 32} {ok : lp.OK} (hlp : lp.trips = 128)
    {body : Fin lp.trips → Unit → Prog (TpuEff nD τ sig (Elt F) Λ₀ (.scVector (cV L) (jV L))) Unit}
    {oi : Fin lp.trips → Fin 2 → ℕ} {hi : ∀ k a, oi k a + S1x16.size a ≤ S8x2048.size a}
    {ov : Fin lp.trips → Fin 1 → ℕ} {hv : ∀ k a, ov k a + S16.size a ≤ S16384.size a}
    (hbody : ∀ k u, body k u = gatherStep L idx lut val (oi k) (hi k) (ov k) (hv k))
    (hoi : ∀ k, oi k = ![s, 16 * k.val]) (hov : ∀ k, ov k = ![16 * k.val + 2048 * s])
    {fi : Buf (Elt F) (idx.view.loc (thr d L))} {fl : Buf (Elt F) (lut.view.loc (thr d L))} {f₀ : Buf (Elt F) (val.view.loc (thr d L))}
    (g : S8x2048.Idx → BitVec 32) (ft : S65536.Idx → F .f32)
    (hg : idx.view.read (Elt F) fi = g) (hb : ∀ x, (g x).toNat < 65536)
    (hl : ∀ j : S65535.Idx, lut.view.read (Elt F) fl j = ft (ix1 ⟨(j 0).val, Nat.lt_succ_of_lt (j 0).isLt⟩))
    (h₀ : ∀ y : S16384.Idx, (y 0).val < 2048 * s → val.view.read (Elt F) f₀ y = resBlk ft g y)
    {β : Type} {kk : Unit → Prog (TpuEff nD τ sig (Elt F) Λ₀ (.scVector (cV L) (jV L))) β} {Q : β → sProp 𝕄} :
    iprop((idx.view.loc (thr d L) ↦{fullShare} fi) ∗ (lut.view.loc (thr d L) ↦{fullShare} fl) ∗ (val.view.loc (thr d L) ↦{fullShare} f₀))
      ⊢ iprop((∀ f : Buf (Elt F) (val.view.loc (thr d L)), ⌜∀ y : S16384.Idx, (y 0).val < 2048 * (s + 1) → val.view.read (Elt F) f y = resBlk ft g y⌝
            -∗ ((idx.view.loc (thr d L) ↦{fullShare} fi) ∗ (lut.view.loc (thr d L) ↦{fullShare} fl) ∗ (val.view.loc (thr d L) ↦{fullShare} f))
            -∗ wp frame (wpE (defs₀ (F := F)) 𝒱₀ (thr d L) none) Set.univ (kk ⟨⟩) Q)
          -∗ wp frame (wpE (defs₀ (F := F)) 𝒱₀ (thr d L) none) Set.univ (Scf.Loop.for lp ok ⟨⟩ body >>= kk) Q) := by
  have htr : Scf.trips lp.lb lp.ub lp.st = 128 := hlp
  iintro H HK
  iapply (Scf.wp_for_bind frame (wpE (defs₀ (F := F)) 𝒱₀ (thr d L) none) Set.univ lp.lb lp.ub lp.st ok ⟨⟩ body
    (fun k _ => iprop(∃ f : Buf (Elt F) (val.view.loc (thr d L)),
      ⌜∀ y : S16384.Idx, (y 0).val < 16 * k + 2048 * s → val.view.read (Elt F) f y = resBlk ft g y⌝
      ∗ (idx.view.loc (thr d L) ↦{fullShare} fi) ∗ (lut.view.loc (thr d L) ↦{fullShare} fl) ∗ (val.view.loc (thr d L) ↦{fullShare} f))) ?step) $$ [H]
  case step =>
    intro k acc
    have hk : k.val < 128 := htr ▸ k.isLt
    rw [hbody]
    unfold gatherStep
    simp only [Prog.lift, Prog.bind_op, Prog.bind_ret, Prog.pure_eq_ret]
    iintro ⟨%f, %hf, Hi, Hl, Hv⟩
    iapply (wp_load 𝒱₀ (thr d L) none Set.univ (m := idx) (S := Finset.univ) (Finset.subset_univ _)) $$ Hi; iintro Hi
    have hc : ∀ x : S1x16.Idx, idx.view.readAt (Elt F) (Rect.unit (s := S8x2048) (oi k) S1x16.size (hi k)).toLoadRect fi x
        = g (ix2 ⟨s, hs⟩ ⟨16 * k.val + (x 1).val, by have : (x 1).val < 16 := (x 1).isLt; omega⟩) := by
      intro x
      rw [View.readAt_apply, hg]
      refine congrArg g (funext fun a => Fin.ext ?_)
      have h0 : (x 0).val < 1 := (x 0).isLt
      rw [LoadRect.idx_apply]
      match a with
      | ⟨0, _⟩ => show oi k 0 + 1 * (x 0).val = s; rw [hoi]; show s + 1 * (x 0).val = s; omega
      | ⟨1, _⟩ => show oi k 1 + 1 * (x 1).val = 16 * k.val + (x 1).val; rw [hoi]; show 16 * k.val + 1 * (x 1).val = _; omega
    rw [wp_assume_of _ _ _ _ (check_holds _ fun x => by rw [hc]; exact hb _)]
    iapply (SparseCore.wp_vectorLoadIdx 𝒱₀ (thr d L) none Set.univ (base := lut) (S := Finset.univ) (q := fullShare) (Finset.subset_univ _)) $$ Hl; iintro Hl
    iapply (wp_load 𝒱₀ (thr d L) none Set.univ (m := val) (S := Finset.univ) (Finset.subset_univ _)) $$ Hv; iintro Hv
    iapply (wp_store 𝒱₀ (thr d L) none Set.univ (m := val) (r := Rect.unit (s := S16384) (ov k) S16.size (hv k)) (Mk := Finset.univ) (S := Finset.univ) (Finset.subset_univ _)) $$ Hv; iintro Hv
    rw [wp_ret]; imodintro
    iexists _
    isplitr [Hi Hl Hv]
    rotate_left
    · isplitl [Hi]; · iexact Hi
      isplitl [Hl]; · iexact Hl
      iexact Hv
    · ipureintro
      intro y hy
      rw [read_store16, hov]
      split
      · rename_i hin
        have hin' : 16 * k.val + 2048 * s ≤ (y 0).val ∧ (y 0).val < 16 * k.val + 2048 * s + 16 := hin
        refine (stored_lane _ (fun x => by rw [hc]; exact hb _) _ ft ?_ _ _).trans ?_
        · intro j
          rw [← hl j]
          exact congrArg (lut.view.read (Elt F) fl) (Rect.emb_whole_apply S65535 j)
        · rw [hc]
          refine congrArg (entry ft) (congrArg g ?_)
          funext a
          match a with
          | ⟨0, _⟩ => exact Fin.ext (show s = (y 0).val / 2048 by omega)
          | ⟨1, _⟩ =>
            refine Fin.ext ?_
            show 16 * k.val + ((y 0).val - (16 * k.val + 2048 * s)) = (y 0).val % 2048
            omega
      · rename_i hout
        have hout' : ¬(16 * k.val + 2048 * s ≤ (y 0).val ∧ (y 0).val < 16 * k.val + 2048 * s + 16) := hout
        exact hf y (by omega)
  · iexists f₀
    isplitr
    · ipureintro; intro y hy; exact h₀ y (by omega)
    · iexact H
  iintro %u ⟨%f, %hf, H⟩
  iapply HK $$ [] H
  ipureintro
  intro y hy
  exact hf y (by rw [htr]; omega)

end Cert.Proof.Lookup

end
-- ==== Proof.Program.lean ====
/-
  The tile's program in the shape the proof follows. A trip of the tile's loop handles eight rows of codes in two
  halves, and the two halves are one program over different buffers: wait for the codes, wait for the eight copies out
  the previous trip issued from this half's results, look the eight rows up, issue the eight copies out, start the copy
  that brings the next trip's codes. `half` is that program; `trip_eq` says the printed loop body is two of them.
-/
module

public import proofs.«01_k».proof.Proof.Gather

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

/-- A program of tile `L`. -/
abbrev TProg (F : FTy → Type) [FloatOps F] (L : grid0.Coords) : Type 1 := Prog (TpuEff nD τ sig (Elt F) Λ₀ (.scVector (cV L) (jV L))) Unit

/-! ## The pieces the copies move -/

theorem chunk_inb (r : ℕ) : ∀ a, (![2048 * (7 - r)] : Fin 1 → ℕ) a + S2048.size a ≤ S16384.size a := by
  intro a
  obtain rfl : a = 0 := Subsingleton.elim _ _
  show 2048 * (7 - r) + 2048 ≤ 16384
  omega

theorem ochunk_inb (r : ℕ) : ∀ a, (![2048 * (7 - r)] : Fin 1 → ℕ) a + S2048.size a ≤ S16777216.size a := by
  intro a
  obtain rfl : a = 0 := Subsingleton.elim _ _
  show 2048 * (7 - r) + 2048 ≤ 16777216
  omega

/-- The row of results a copy out takes, `r` copies before the last. -/
abbrev chunk (val : Memref sig .scVector .vmem S16384 .f32) (r : ℕ) : Memref sig .scVector .vmem S2048 .f32 :=
  val.slice (Rect.unit (s := S16384) ![2048 * (7 - r)] S2048.size (chunk_inb r)) (fun _ => rfl)

/-- The piece of the result a wait names (its size is what counts). -/
abbrev waited (r : ℕ) : Memref sig .scVector .hbm S2048 .f32 :=
  oM.slice (Rect.unit (s := S16777216) ![2048 * (7 - r)] S2048.size (ochunk_inb r)) (fun _ => rfl)

theorem dst_inb (L : grid0.Coords) (t : Fin k0_t1_loop.trips) (h : Fin 2) (r : ℕ) :
    ∀ a, k0_off20 L t (BitVec.ofNat 32 (7 - r)) (BitVec.ofNat 32 (2048 * h.val)) a + S2048.size a ≤ S16777216.size a :=
  Facts₀.k0_off20_inb L t ⟨7 - r, by omega⟩ h

/-- The piece of the result a copy out fills. -/
abbrev dst (L : grid0.Coords) (t : Fin k0_t1_loop.trips) (h : Fin 2) (r : ℕ) : Memref sig .scVector .hbm S2048 .f32 :=
  oM.slice (Rect.unit (s := S16777216) (k0_off20 L t (BitVec.ofNat 32 (7 - r)) (BitVec.ofNat 32 (2048 * h.val))) S2048.size (dst_inb L t h r))
    (fun _ => rfl)

/-- A block of codes in HBM. -/
abbrev blk (o : Fin 2 → ℕ) (ho : ∀ a, o a + S8x2048.size a ≤ S4096x4096.size a) : Memref sig .scVector .hbm S8x2048 .i32 :=
  eM.slice (Rect.unit (s := S4096x4096) o S8x2048.size ho) (fun _ => rfl)

/-! ## The runs of like operations -/

/-- The last `r` of the eight waits for a half's copies out. -/
def waits (L : grid0.Coords) (so : DmaSem sig) (val : Memref sig .scVector .vmem S16384 .f32) : ℕ → TProg F L
  | 0 => .ret ⟨⟩
  | r + 1 => .op (.waitDma2 so (chunk val r) (waited r) (View.wordExact_bits rfl) (View.wordExact_bits rfl)) fun _ => waits L so val r

/-- The last `r` of the eight copies out of trip `t`'s half `h`, then `k`. -/
def issues (L : grid0.Coords) (so : DmaSem sig) (val : Memref sig .scVector .vmem S16384 .f32) (t : Fin k0_t1_loop.trips) (h : Fin 2) :
    ℕ → TProg F L → TProg F L
  | 0, k => k
  | r + 1, k => .op (.enqueueDma (chunk val r) (.here (dst L t h r)) (.dma so) (View.wordExact_bits rfl) (View.wordExact_bits rfl) ⟨Or.inl rfl, trivial⟩)
      fun _ => issues L so val t h r k

/-- Where the sixteen lookup loops read codes and store results: loop by loop of a half, trip by trip. -/
structure Offs where
  oi : Fin 8 → Fin k0_t2_loop.trips → Fin 2 → ℕ
  ov : Fin 8 → Fin k0_t2_loop.trips → Fin 1 → ℕ
  hoi : ∀ s k, oi s k = ![s.val, 16 * k.val]
  hov : ∀ s k, ov s k = ![16 * k.val + 2048 * s.val]

theorem trips_lookup : k0_t2_loop.trips = 128 := by decide +kernel

theorem Offs.hi (o : Offs) (s : Fin 8) (k : Fin k0_t2_loop.trips) : ∀ a, o.oi s k a + S1x16.size a ≤ S8x2048.size a := by
  have hk : k.val < 128 := trips_lookup ▸ k.isLt
  intro a
  rw [o.hoi]
  match a with
  | ⟨0, _⟩ => show s.val + 1 ≤ 8; omega
  | ⟨1, _⟩ => show 16 * k.val + 16 ≤ 2048; omega

theorem Offs.hv (o : Offs) (s : Fin 8) (k : Fin k0_t2_loop.trips) : ∀ a, o.ov s k a + S16.size a ≤ S16384.size a := by
  have hk : k.val < 128 := trips_lookup ▸ k.isLt
  intro a
  rw [o.hov]
  obtain rfl : a = 0 := Subsingleton.elim _ _
  show 16 * k.val + 2048 * s.val + 16 ≤ 16384
  omega

/-- The last `r` of a half's eight lookup loops, then `k`. -/
def gathers (L : grid0.Coords) (idx : Memref sig .scVector .vmem S8x2048 .i32) (val : Memref sig .scVector .vmem S16384 .f32) (o : Offs) :
    ℕ → TProg F L → TProg F L
  | 0, k => k
  | r + 1, k => Scf.Loop.for k0_t2_loop k0_t2_ok ⟨⟩ (fun t _ => gatherStep L idx lutM val (o.oi ⟨7 - r, by omega⟩ t) (o.hi _ t) (o.ov ⟨7 - r, by omega⟩ t) (o.hv _ t))
      >>= fun _ => gathers L idx val o r k

/-- The loops of the first half, -/
def offs0 : Offs where
  oi := fun | 0 => k0_off4 | 1 => k0_off6 | 2 => k0_off8 | 3 => k0_off10 | 4 => k0_off12 | 5 => k0_off14 | 6 => k0_off16 | 7 => k0_off18
  ov := fun | 0 => k0_off5 | 1 => k0_off7 | 2 => k0_off9 | 3 => k0_off11 | 4 => k0_off13 | 5 => k0_off15 | 6 => k0_off17 | 7 => k0_off19
  hoi := fun | 0 => k0_off4_eq | 1 => k0_off6_eq | 2 => k0_off8_eq | 3 => k0_off10_eq | 4 => k0_off12_eq | 5 => k0_off14_eq | 6 => k0_off16_eq | 7 => k0_off18_eq
  hov := fun | 0 => k0_off5_eq | 1 => k0_off7_eq | 2 => k0_off9_eq | 3 => k0_off11_eq | 4 => k0_off13_eq | 5 => k0_off15_eq | 6 => k0_off17_eq | 7 => k0_off19_eq

/-- and of the second. -/
def offs1 : Offs where
  oi := fun | 0 => k0_off23 | 1 => k0_off25 | 2 => k0_off27 | 3 => k0_off29 | 4 => k0_off31 | 5 => k0_off33 | 6 => k0_off35 | 7 => k0_off37
  ov := fun | 0 => k0_off24 | 1 => k0_off26 | 2 => k0_off28 | 3 => k0_off30 | 4 => k0_off32 | 5 => k0_off34 | 6 => k0_off36 | 7 => k0_off38
  hoi := fun | 0 => k0_off23_eq | 1 => k0_off25_eq | 2 => k0_off27_eq | 3 => k0_off29_eq | 4 => k0_off31_eq | 5 => k0_off33_eq | 6 => k0_off35_eq | 7 => k0_off37_eq
  hov := fun | 0 => k0_off24_eq | 1 => k0_off26_eq | 2 => k0_off28_eq | 3 => k0_off30_eq | 4 => k0_off32_eq | 5 => k0_off34_eq | 6 => k0_off36_eq | 7 => k0_off38_eq

/-! ## A half, a trip, the tile -/

/-- The half `h` of trip `t`: `oin` is where its codes lie, `cd` says whether there are copies out to wait for, `cn` whether
    there are codes to bring next and `on` where they lie. -/
def half (L : grid0.Coords) (idx : Memref sig .scVector .vmem S8x2048 .i32) (hidx : idx.view.WordExact) (val : Memref sig .scVector .vmem S16384 .f32)
    (si so : DmaSem sig) (o : Offs) (t : Fin k0_t1_loop.trips) (h : Fin 2)
    (oin : Fin 2 → ℕ) (hin : ∀ a, oin a + S8x2048.size a ≤ S4096x4096.size a) (cd cn : BitVec 1)
    (on : Fin 2 → ℕ) (hn : cn = 1#1 → ∀ a, on a + S8x2048.size a ≤ S4096x4096.size a) (k : TProg F L) : TProg F L :=
  .op (.waitDma2 si (blk oin hin) idx (View.wordExact_bits rfl) hidx) fun _ =>
  (if _ : cd = 1#1 then waits L so val 8 else .ret ⟨⟩ : TProg F L) >>= fun _ =>
  gathers L idx val o 8 (issues L so val t h 8 (
    (if hc : cn = 1#1 then .op (.enqueueDma (blk on (hn hc)) (.here idx) (.dma si) (View.wordExact_bits rfl) hidx ⟨Or.inl rfl, trivial⟩) fun _ => .ret ⟨⟩
      else .ret ⟨⟩ : TProg F L) >>= fun _ => k))

/-- Whether trip `t` has copies out to wait for, as the program computes it. -/
def drains (t : Fin k0_t1_loop.trips) : BitVec 1 :=
  Scalar.cmpi .ne (Scalar.extui (Scalar.cmpi .sge (Scalar.addi 0#32 (Scalar.muli (Scf.iv 0#32 1#32 t) 2#32)) 2#32) : BitVec 32) 0#32

/-- A trip. -/
def trip (L : grid0.Coords) (t : Fin k0_t1_loop.trips) : TProg F L :=
  half L idx0M (Memref.isWhole_whole _).wordExact val0M cc0_scratch5.sem cc0_scratch7.sem offs0 t 0 (k0_off3 L t) (Facts₀.k0_off3_inb L t) (drains t) (k0_cond2 t)
    (k0_off21 L t) (Facts₀.k0_off21_inb L t) <|
  half L idx1M (Memref.isWhole_whole _).wordExact val1M cc0_scratch6.sem cc0_scratch8.sem offs1 t 1 (k0_off22 L t) (Facts₀.k0_off22_inb L t) (drains t) (k0_cond4 t)
    (k0_off39 L t) (Facts₀.k0_off39_inb L t) (.ret ⟨⟩)

set_option maxHeartbeats 4000000 in
set_option maxRecDepth 65536 in
/-- The printed body of the tile's loop is a trip. -/
theorem trip_eq (L : grid0.Coords) (v2 : BitVec 32) (t : Fin k0_t1_loop.trips) (u : Unit) :
    k0_t1_body (F := F) L eM (Memref.isWhole_whole _) tM (Memref.isWhole_whole _) oM (Memref.isWhole_whole _) lutM (Memref.isWhole_whole _)
      idx0M (Memref.isWhole_whole _) idx1M (Memref.isWhole_whole _) val0M (Memref.isWhole_whole _) val1M (Memref.isWhole_whole _)
      cc0_scratch5 cc0_scratch6 cc0_scratch7 cc0_scratch8 cc0_scoped0 v2 t u = trip L t := by
  unfold k0_t1_body trip half
  simp only [k0_part3_eq_skeleton, k0_part4_eq_skeleton, k0_part5_eq_skeleton, k0_part6_eq_skeleton, k0_part7_eq_skeleton, k0_part8_eq_skeleton]
  unfold k0_part3_skel k0_part4_skel k0_part5_skel k0_part6_skel k0_part7_skel k0_part8_skel
  simp only [k0_part1_eq_skeleton, k0_part2_eq_skeleton]
  unfold k0_part1_skel k0_part2_skel
  by_cases hd : drains t = 1#1 <;> by_cases h2 : k0_cond2 t = 1#1 <;> by_cases h4 : k0_cond4 t = 1#1 <;> unfold drains at hd ⊢ <;>
  · simp only [Prog.lift, Prog.bind_op, Prog.bind_ret, Prog.pure_eq_ret, Prog.bind_assoc, hd, h2, h4, ↓reduceDIte]
    rfl

/-- The part of the table a tile copies: all but its last entry. -/
abbrev lutSrc : Memref sig .scVector .hbm S65535 .f32 :=
  tM.slice (Rect.unit (s := S65536) ![0] S65535.size Facts₀.inb_S65536_S65535_0) (fun _ => rfl)

/-- The tile: the first trip's codes and the table are brought, the trips run, the last trip's copies out are waited for. -/
def tile (L : grid0.Coords) : TProg F L :=
  .op (.enqueueDma (blk (k0_off1 L) (Facts₀.k0_off1_inb L)) (.here idx0M) (.dma cc0_scratch5.sem) (View.wordExact_bits rfl) (Memref.isWhole_whole _).wordExact ⟨Or.inl rfl, trivial⟩) fun _ =>
  .op (.enqueueDma (blk (k0_off2 L) (Facts₀.k0_off2_inb L)) (.here idx1M) (.dma cc0_scratch6.sem) (View.wordExact_bits rfl) (Memref.isWhole_whole _).wordExact ⟨Or.inl rfl, trivial⟩) fun _ =>
  .op (.enqueueDma lutSrc (.here lutM) (.dma cc0_scoped0.sem) (View.wordExact_bits rfl) (Memref.isWhole_whole _).wordExact ⟨Or.inl rfl, trivial⟩) fun _ =>
  .op (.waitDma2 cc0_scoped0.sem lutSrc lutM (View.wordExact_bits rfl) (Memref.isWhole_whole _).wordExact) fun _ =>
  Scf.Loop.for k0_t1_loop k0_t1_ok ⟨⟩ (fun t _ => trip L t) >>= fun _ =>
  waits L cc0_scratch7.sem val0M 8 >>= fun _ =>
  waits L cc0_scratch8.sem val1M 8

set_option maxHeartbeats 4000000 in
set_option maxRecDepth 65536 in
/-- The printed kernel on a tile is `tile`. -/
theorem tile_eq (L : grid0.Coords) :
    cc0__sc_body (F := F) L eM (Memref.isWhole_whole _) tM (Memref.isWhole_whole _) oM (Memref.isWhole_whole _) lutM (Memref.isWhole_whole _)
      idx0M (Memref.isWhole_whole _) idx1M (Memref.isWhole_whole _) val0M (Memref.isWhole_whole _) val1M (Memref.isWhole_whole _)
      cc0_scratch5 cc0_scratch6 cc0_scratch7 cc0_scratch8 cc0_scoped0 = tile L := by
  rw [cc0__sc_body_eq_skeleton]
  unfold cc0__sc_body_skel tile
  rw [k0_part9_eq_skeleton, k0_part10_eq_skeleton]
  unfold k0_part9_skel k0_part10_skel
  simp only [Prog.lift, Prog.bind_op, Prog.bind_ret, Prog.pure_eq_ret, Prog.bind_assoc]
  have hb : ∀ v2, k0_t1_body (F := F) L eM (Memref.isWhole_whole _) tM (Memref.isWhole_whole _) oM (Memref.isWhole_whole _) lutM (Memref.isWhole_whole _)
      idx0M (Memref.isWhole_whole _) idx1M (Memref.isWhole_whole _) val0M (Memref.isWhole_whole _) val1M (Memref.isWhole_whole _)
      cc0_scratch5 cc0_scratch6 cc0_scratch7 cc0_scratch8 cc0_scoped0 v2 = fun t _ => trip L t :=
    fun v2 => funext fun t => funext fun u => trip_eq L v2 t u
  simp only [hb]
  rfl

end Cert.Proof.Lookup

end
-- ==== Proof.Blocks.lean ====
/-
  The pieces the copies out move: a row of a half's results is one of eight chunks of the tile's block, and it fills one
  of the 8192 blocks of 2048 words of the flat result.
-/
module

public import proofs.«01_k».proof.Proof.Program

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

local notation "𝕄" => MT nD τ sig (HIx 1) (Elt F) ℕ UU ℕ

/-! ## The blocks of the result -/

/-- Block `n` of the flat result: words `2048 n` to `2048 (n + 1)`. -/
def oBlk (n : ℕ) : Finset S16777216.Idx := Finset.univ.filter fun j => (j 0).val / 2048 = n

theorem mem_oBlk {n : ℕ} {j : S16777216.Idx} : j ∈ oBlk n ↔ (j 0).val / 2048 = n := by
  unfold oBlk; simp

theorem oBlk_disjoint {n n' : ℕ} (h : n ≠ n') : Disjoint (oBlk n) (oBlk n') :=
  Finset.disjoint_left.mpr fun _ hj hj' => h ((mem_oBlk.mp hj).symm.trans (mem_oBlk.mp hj'))

/-- A tile's first row of codes. -/
abbrev row0 (L : grid0.Coords) : ℕ := 256 * (L 1).val + 128 * (L 0).val

/-- The block of the result for row `s` of the half `h` of trip `t` of tile `L`. -/
abbrev pnum (L : grid0.Coords) (t h s : ℕ) : ℕ := 2 * (row0 L + 8 * t + s) + h

theorem dst_off (L : grid0.Coords) (t : Fin k0_t1_loop.trips) (h : Fin 2) (r : ℕ) :
    k0_off20 L t (BitVec.ofNat 32 (7 - r)) (BitVec.ofNat 32 (2048 * h.val)) = ![2048 * pnum L t.val h.val (7 - r)] := by
  refine (k0_off20_eq L t ⟨7 - r, by omega⟩ h).trans ?_
  funext a
  obtain rfl : a = 0 := Subsingleton.elim _ _
  show 1048576 * (L 1).val + 524288 * (L 0).val + 32768 * t.val + 4096 * (7 - r) + 2048 * h.val = 2048 * pnum L t.val h.val (7 - r)
  unfold pnum row0
  omega

/-- The elements a copy out fills are its block of the result. -/
theorem set_dst (L : grid0.Coords) (t : Fin k0_t1_loop.trips) (h : Fin 2) (r : ℕ) :
    (dst L t h r).view.set = oBlk (pnum L t.val h.val (7 - r)) := by
  refine (View.set_slice_whole main_v1_scv _).trans ?_
  refine Finset.ext fun (j : S16777216.Idx) => ?_
  rw [Rect.mem_set_unit, mem_oBlk, dst_off]
  constructor
  · intro hj
    have h0 : 2048 * pnum L t.val h.val (7 - r) ≤ (j 0).val ∧ (j 0).val < 2048 * pnum L t.val h.val (7 - r) + 2048 := hj 0
    omega
  · intro hj (a : Fin 1)
    obtain rfl : a = 0 := Subsingleton.elim _ _
    show 2048 * pnum L t.val h.val (7 - r) ≤ (j 0).val ∧ (j 0).val < 2048 * pnum L t.val h.val (7 - r) + 2048
    omega

/-- What a copy out leaves in its block, from a block of results right everywhere: the flat result's own words. -/
theorem deliver (L : grid0.Coords) (t : Fin k0_t1_loop.trips) (h : Fin 2) (r : ℕ) (hr : r ≤ 7) (val : Memref sig .scVector .vmem S16384 .f32)
    (fe : S4096x4096.Idx → BitVec 32) (ft : S65536.Idx → F .f32) (fV : val.view.ty.Contents (Elt F)) (fd : (dst L t h r).view.ty.Contents (Elt F))
    (hv : ∀ y, val.view.read (Elt F) fV y = resBlk ft (codeBlk fe (row0 L + 8 * t.val) h.val) y) (ht : t.val < 16) :
    ∀ j ∈ oBlk (pnum L t.val h.val (7 - r)),
      (dst L t h r).view.write (Elt F) fd (ReadAs.same.apply ((chunk val r).view.read (Elt F) fV)) Finset.univ j = outVal fe ft j := by
  intro j hj
  rw [← set_dst] at hj
  obtain ⟨x, -, rfl⟩ := Finset.mem_map.mp hj
  rw [View.write_emb_of_mem _ _ (Finset.mem_univ x)]
  have hx : (x 0).val < 2048 := (x 0).isLt
  have h1 : (L 1).val < 16 := (L 1).isLt
  have h0 : (L 0).val < 2 := (L 0).isLt
  have hh : h.val < 2 := h.isLt
  show val.view.read (Elt F) fV ((Rect.unit (s := S16384) ![2048 * (7 - r)] S2048.size (chunk_inb r)).emb x) = _
  rw [hv]
  have hy : (((Rect.unit (s := S16384) ![2048 * (7 - r)] S2048.size (chunk_inb r)).emb x) 0).val = 2048 * (7 - r) + 1 * (x 0).val := Rect.emb_apply _ _ _
  have hz : ((((dst L t h r).view.emb x) : S16777216.Idx) 0).val = 2048 * pnum L t.val h.val (7 - r) + 1 * (x 0).val := by
    have : ((((dst L t h r).view.emb x) : S16777216.Idx) 0).val
        = k0_off20 L t (BitVec.ofNat 32 (7 - r)) (BitVec.ofNat 32 (2048 * h.val)) 0 + 1 * (x 0).val := Rect.emb_apply _ _ _
    rw [this, dst_off]; rfl
  unfold resBlk outVal codeBlk
  refine congrArg (entry ft) ?_
  rw [dif_pos ?_]
  · refine congrArg fe (funext fun a => Fin.ext ?_)
    match a with
    | ⟨0, _⟩ =>
      show row0 L + 8 * t.val + _ / 2048 = _ / 4096
      rw [hy, hz]; unfold pnum row0; omega
    | ⟨1, _⟩ =>
      show 2048 * h.val + _ % 2048 = _ % 4096
      rw [hy, hz]; unfold pnum row0; omega
  · constructor
    · show row0 L + 8 * t.val + _ / 2048 < 4096
      rw [hy]; unfold row0; omega
    · show 2048 * h.val + _ % 2048 < 4096
      rw [hy]; omega

/-! ## The chunks of a block of results -/

/-- The elements of row `s` of a block of results. -/
def cSet (val : Memref sig .scVector .vmem S16384 .f32) (s : ℕ) : Finset val.view.ty.Idx :=
  (Finset.univ.filter fun y : S16384.Idx => (y 0).val / 2048 = s).map val.view.emb

theorem mem_chunk (r : ℕ) (hr : r ≤ 7) (y : S16384.Idx) :
    y ∈ (Rect.unit (s := S16384) ![2048 * (7 - r)] S2048.size (chunk_inb r)).set ↔ (y 0).val / 2048 = 7 - r := by
  rw [Rect.mem_set_unit]
  constructor
  · intro h
    have h0 : 2048 * (7 - r) ≤ (y 0).val ∧ (y 0).val < 2048 * (7 - r) + 2048 := h 0
    omega
  · intro h a
    obtain rfl : a = 0 := Subsingleton.elim _ _
    show 2048 * (7 - r) ≤ (y 0).val ∧ (y 0).val < 2048 * (7 - r) + 2048
    omega

theorem mem_cSet (val : Memref sig .scVector .vmem S16384 .f32) (s : ℕ) (y : S16384.Idx) :
    val.view.emb y ∈ cSet val s ↔ (y 0).val / 2048 = s := by
  unfold cSet
  rw [Finset.mem_map']
  simp

/-- The elements a copy out reads. -/
theorem set_chunk (val : Memref sig .scVector .vmem S16384 .f32) (r : ℕ) (hr : r ≤ 7) : (chunk val r).view.set = cSet val (7 - r) := by
  refine (View.set_slice val.view (Rect.unit (s := S16384) ![2048 * (7 - r)] S2048.size (chunk_inb r))).trans ?_
  have h : (Rect.unit (s := S16384) ![2048 * (7 - r)] S2048.size (chunk_inb r)).set
      = Finset.univ.filter fun y : S16384.Idx => (y 0).val / 2048 = 7 - r :=
    Finset.ext fun y => (mem_chunk r hr y).trans (by simp only [Finset.mem_filter, Finset.mem_univ, true_and])
  exact congrArg (Finset.map val.view.emb) h

/-- A block of results is its eight chunks. -/
theorem pts_chunks (d : Dev nD) (L : grid0.Coords) (val : Memref sig .scVector .vmem S16384 .f32) (hval : val.view.set = Finset.univ)
    (f : Buf (Elt F) (val.view.loc (thr d L))) :
    (val.view.loc (thr d L) ↦{fullShare} f : sProp 𝕄) = bigSep Finset.univ fun s : Fin 8 => val.view.loc (thr d L) ↦[cSet val s.val]{fullShare} f := by
  refine Eq.trans ?_ (pointsTo_biUnion (ℓ := val.view.loc (thr d L)) (q := fullShare) (f := f) Finset.univ
    (fun s : Fin 8 => (cSet val s.val : Finset (Idx (val.view.loc (thr d L))))) ?_)
  · refine congrArg (fun S => (val.view.loc (thr d L) ↦[S]{fullShare} f : sProp 𝕄)) (Eq.symm (Finset.eq_univ_of_forall fun i => ?_))
    have hi : i ∈ val.view.set := hval ▸ Finset.mem_univ i
    obtain ⟨y, -, rfl⟩ := Finset.mem_map.mp hi
    have hy : (y 0).val < 16384 := (y 0).isLt
    exact Finset.mem_biUnion.mpr ⟨⟨(y 0).val / 2048, by omega⟩, Finset.mem_univ _, (mem_cSet val _ y).mpr rfl⟩
  · intro s _ s' _ hne
    refine Finset.disjoint_left.mpr fun i hi hi' => hne (Fin.ext ?_)
    have hiu : i ∈ val.view.set := hval ▸ Finset.mem_univ i
    obtain ⟨y, -, rfl⟩ := Finset.mem_map.mp hiu
    exact ((mem_cSet val s y).mp hi).symm.trans ((mem_cSet val s' y).mp hi')

end Cert.Proof.Lookup

end
-- ==== Proof.Copies.lean ====
/-
  The runs of the tile's copies: a block of codes brought in, the eight copies out of a half's results issued on one
  semaphore, and the eight waits for them. The copies out of one half are one counted batch: nothing of what they move is
  touched between the first copy and the last wait, which hands every piece back.
-/
module

public import proofs.«01_k».proof.Proof.Blocks

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

open Idealize.ShloMosaic.Transfers

local notation "𝕄" => MT nD τ sig (HIx 1) (Elt F) ℕ UU ℕ

variable (d : Dev nD) (L : grid0.Coords) (O : CellTallies nD τ sig (HIx 1)) (W : Waits sig (HIx 1))

/-- What the tile owes: its obligations, and the waits it has recorded beyond `W` are all its own copies'. -/
def owed : sProp 𝕄 := iprop(∃ W' : Waits sig (HIx 1), ⌜∀ p ∈ W', p ∈ W ∨ p.2 = none⌝ ∗ owes (thr d L) O W')

theorem owed_elim : owed d L O W ⊢ (iprop(∃ W' : Waits sig (HIx 1), ⌜∀ p ∈ W', p ∈ W ∨ p.2 = none⌝ ∗ owes (thr d L) O W') : sProp 𝕄) := by
  unfold owed; exact .rfl

/-- One more wait of the tile's own is recorded. -/
theorem owed_insert {W' : Waits sig (HIx 1)} (hW : ∀ p ∈ W', p ∈ W ∨ p.2 = none) (sm : SemLoc sig) :
    (owes (thr d L) O (insert (sm, none) W') : sProp 𝕄) ⊢ owed d L O W := by
  unfold owed
  iintro H
  iexists (insert (sm, none) W')
  isplitr
  · ipureintro
    intro p hp
    rcases Finset.mem_insert.mp hp with rfl | hp
    · exact .inr rfl
    · exact hW p hp
  · iexact H

/-! ## Bringing a block of codes -/

/-- A block of codes on its way: the copy delivers rows `r` to `r + 8` of half `h`, and gives back what it reads. -/
def fetching (idx : Memref sig .scVector .vmem S8x2048 .i32) (si : DmaSem sig) (q : PosShare TreeShare) (fe : S4096x4096.Idx → BitVec 32) (r h : ℕ) :
    sProp 𝕄 :=
  iprop(∃ fi : Buf (Elt F) (idx.view.loc (thr d L)), ⌜idx.view.read (Elt F) fi = codeBlk fe r h⌝
    ∗ ∃ S : Finset (Idx (eM.view.loc (thr d L))),
        Flight countersEmb (thr d L) (.dma si) (none : HIx 1) idx.view.dmaCredit
          iprop((idx.view.loc (thr d L) ↦{fullShare} fi) ∗ (eM.view.loc (thr d L) ↦[S]{q} fe))
        ∗ (eM.view.loc (thr d L) ↦[Finset.univ \ S]{q} fe))

/-- What a copy in reads: the block of codes. -/
theorem read_blk (o : Fin 2 → ℕ) (ho : ∀ a, o a + S8x2048.size a ≤ S4096x4096.size a) (fe : S4096x4096.Idx → BitVec 32) (r h : ℕ)
    (he : o = ![r, 2048 * h]) : (blk o ho).view.read (Elt F) fe = codeBlk fe r h := by
  funext x
  have h0 : (x 0).val < 8 := (x 0).isLt
  have h1 : (x 1).val < 2048 := (x 1).isLt
  have b0 : r + 8 ≤ 4096 := by have := ho 0; rw [he] at this; exact this
  have b1 : 2048 * h + 2048 ≤ 4096 := by have := ho 1; rw [he] at this; exact this
  show fe ((Rect.unit (s := S4096x4096) o S8x2048.size ho).emb x) = _
  unfold codeBlk
  rw [dif_pos ⟨by omega, by omega⟩]
  refine congrArg fe (funext fun a => Fin.ext ?_)
  rw [Rect.emb_apply]
  subst he
  match a with
  | ⟨0, _⟩ => show r + 1 * (x 0).val = r + (x 0).val; omega
  | ⟨1, _⟩ => show 2048 * h + 1 * (x 1).val = 2048 * h + (x 1).val; omega

theorem fetch_issue {idx : Memref sig .scVector .vmem S8x2048 .i32} {hidx : idx.view.WordExact} {si : DmaSem sig} {q : PosShare TreeShare}
    {fe : S4096x4096.Idx → BitVec 32} {r h : ℕ} {o : Fin 2 → ℕ} {ho : ∀ a, o a + S8x2048.size a ≤ S4096x4096.size a} (he : o = ![r, 2048 * h])
    {f : Buf (Elt F) (idx.view.loc (thr d L))}
    {hs ht hm} {kk : PUnit → TProg F L} {Q : Unit → sProp 𝕄} :
    iprop((eM.view.loc (thr d L) ↦{q} fe) ∗ (idx.view.loc (thr d L) ↦{fullShare} f) ∗ semVal (thr d L, .dma si) 0)
      ⊢ iprop((fetching d L idx si q fe r h -∗ wp frame (wpE (defs₀ (F := F)) 𝒱₀ (thr d L) none) Set.univ (kk ⟨⟩) Q)
          -∗ wp frame (wpE (defs₀ (F := F)) 𝒱₀ (thr d L) none) Set.univ
              (.op (.enqueueDma (blk o ho) (.here idx) (.dma si) hs ht hm) kk) Q) := by
  iintro ⟨He, Hi, Hv⟩ HK
  ihave He := (show (eM.view.loc (thr d L) ↦{q} fe : sProp 𝕄)
      ⊢ iprop((eM.view.loc (thr d L) ↦[(blk o ho).view.set]{q} fe) ∗ (eM.view.loc (thr d L) ↦[Finset.univ \ (blk o ho).view.set]{q} fe))
      from (pointsTo_split_subset (Finset.subset_univ _)).1) $$ He
  icases He with ⟨He, Hr⟩
  iapply (wp_dmaLocal countersEmb 𝒱₀ (thr d L) none (none : HIx 1) idx.view.dmaCredit rfl (View.dmaCredit_pos _ (by decide)) (Finset.subset_univ _)) $$ [He Hi Hv]
  · isplitl [He]; · iexact He
    isplitl [Hi]; · iexact Hi
    iexact Hv
  iintro HF
  iapply HK
  unfold fetching
  iexists (idx.view.write (Elt F) f (ReadAs.same.apply ((blk o ho).view.read (Elt F) fe)) Finset.univ)
  isplitr
  · ipureintro
    exact (View.read_write_univ _ _).trans (read_blk o ho fe r h he)
  iexists (blk o ho).view.set
  isplitl [HF]; · iexact HF
  iexact Hr

theorem fetch_wait {idx : Memref sig .scVector .vmem S8x2048 .i32} {si : DmaSem sig} {q : PosShare TreeShare}
    {fe : S4096x4096.Idx → BitVec 32} {r h : ℕ} {src : Memref sig .scVector .hbm S8x2048 .i32}
    {hs ht} {kk : PUnit → TProg F L} {Q : Unit → sProp 𝕄} :
    iprop(fetching d L idx si q fe r h ∗ owed d L O W ∗ MayWaits (thr d L) (none : HIx 1) O)
      ⊢ iprop((∀ fi : Buf (Elt F) (idx.view.loc (thr d L)), ⌜idx.view.read (Elt F) fi = codeBlk fe r h⌝
              -∗ ((idx.view.loc (thr d L) ↦{fullShare} fi) ∗ (eM.view.loc (thr d L) ↦{q} fe) ∗ semVal (thr d L, .dma si) 0 ∗ owed d L O W)
              -∗ wp frame (wpE (defs₀ (F := F)) 𝒱₀ (thr d L) none) Set.univ (kk ⟨⟩) Q)
          -∗ wp frame (wpE (defs₀ (F := F)) 𝒱₀ (thr d L) none) Set.univ (.op (.waitDma2 si src idx hs ht) kk) Q) := by
  unfold fetching
  iintro ⟨⟨%fi, %hfi, %S, HF, Hr⟩, HO, Hmw⟩ HK
  ihave HO := (owed_elim d L O W) $$ HO
  icases HO with ⟨%W', %hW, HO⟩
  iapply (wp_waitLocalO countersEmb 𝒱₀ (thr d L) none (none : HIx 1) rfl) $$ [HF HO Hmw]
  · isplitl [HF]; · iexact HF
    isplitl [HO]; · iexact HO
    iapply (MayWaits.elim (.dma si)) $$ Hmw
  iintro ⟨⟨Hi, He⟩, Hv, HO⟩
  ihave He := (show iprop((eM.view.loc (thr d L) ↦[S]{q} fe) ∗ (eM.view.loc (thr d L) ↦[Finset.univ \ S]{q} fe))
      ⊢ (eM.view.loc (thr d L) ↦{q} fe : sProp 𝕄)
      from (pointsTo_split_subset (Finset.subset_univ S)).2) $$ [He Hr]
  · isplitl [He]; · iexact He
    iexact Hr
  iapply HK $$ %fi %hfi
  isplitl [Hi]; · iexact Hi
  isplitl [He]; · iexact He
  isplitl [Hv]; · iexact Hv
  iapply (owed_insert d L O W hW (.dma si)) $$ HO

/-! ## The copies out -/

/-- What one copy out adds to its semaphore. -/
abbrev NO : ℕ := sig.dmaCredit .scVector (Kind.scVector.table .hbm) main_v1_scv.idx S2048 .f32

theorem NO_pos : 0 < NO := sig.dmaCredit_pos _ _ _ _ _ (by decide)

/-- The flat result, as the tiles hold its pieces. -/
def outB (fe : S4096x4096.Idx → BitVec 32) (ft : S65536.Idx → F .f32) : Buf (Elt F) (oM.view.loc (thr d L)) := outVal fe ft

/-- What the copy out of row `s` delivers: its block of the result, right, and the row of results back. -/
def outD (val : Memref sig .scVector .vmem S16384 .f32) (G : Buf (Elt F) (oM.view.loc (thr d L))) (fV : Buf (Elt F) (val.view.loc (thr d L))) (t h : ℕ)
    (s : Fin 8) : sProp 𝕄 :=
  iprop((oM.view.loc (thr d L) ↦[oBlk (pnum L t h s.val)]{fullShare} G) ∗ (val.view.loc (thr d L) ↦[cSet val s.val]{fullShare} fV))

instance outD_storable (val : Memref sig .scVector .vmem S16384 .f32) (G : Buf (Elt F) (oM.view.loc (thr d L))) (fV : Buf (Elt F) (val.view.loc (thr d L)))
    (t h : ℕ) (s : Fin 8) : BI.Storable (upEmb : UEmb _ 𝕄) (outD d L val G fV t h s) := by
  unfold outD; infer_instance

/-- The eight blocks of the result of half `h` of trip `t`. -/
def blocks (G : Buf (Elt F) (oM.view.loc (thr d L))) (h t : ℕ) : sProp 𝕄 :=
  bigSep Finset.univ fun s : Fin 8 => oM.view.loc (thr d L) ↦[oBlk (pnum L t h s.val)]{fullShare} G

/-- The eight waits: every copy's delivery. -/
theorem waits_run {so : DmaSem sig} {val : Memref sig .scVector .vmem S16384 .f32} {Dl : Fin 8 → sProp 𝕄} {kk : Unit → TProg F L} {Q : Unit → sProp 𝕄} :
    ∀ r, r < 8 → iprop(Batch countersEmb (thr d L) (.dma so) (none : HIx 1) NO Dl 8 ((7 - r) * NO) ∗ owed d L O W ∗ MayWaits (thr d L) (none : HIx 1) O)
      ⊢ iprop((iprop(bigSep Finset.univ Dl ∗ semVal (thr d L, .dma so) 0 ∗ owed d L O W)
              -∗ wp frame (wpE (defs₀ (F := F)) 𝒱₀ (thr d L) none) Set.univ (kk ⟨⟩) Q)
          -∗ wp frame (wpE (defs₀ (F := F)) 𝒱₀ (thr d L) none) Set.univ (waits L so val (r + 1) >>= kk) Q)
  | 0, _ => by
    have hu : (7 - 0) * NO + NO = NO * 8 := by rw [Nat.mul_comm NO 8, ← Nat.succ_mul]
    unfold waits waits
    rw [Prog.bind_op]
    iintro ⟨HB, HO, Hmw⟩ HK
    ihave HO := (owed_elim d L O W) $$ HO
    icases HO with ⟨%W', %hW, HO⟩
    iapply (wp_waitBatchLastO countersEmb 𝒱₀ (thr d L) none (none : HIx 1) (n := 8) (N := NO) rfl NO_pos hu) $$ [HB HO Hmw]
    · isplitl [HB]; · iexact HB
      isplitl [HO]; · iexact HO
      iapply (MayWaits.elim (.dma so)) $$ Hmw
    iintro ⟨HD, Hv, HO⟩
    rw [Prog.bind_ret]
    iapply HK
    isplitl [HD]; · iexact HD
    isplitl [Hv]; · iexact Hv
    iapply (owed_insert d L O W hW (.dma so)) $$ HO
  | r + 1, hr => by
    have hN := NO_pos
    have e : (7 - (r + 1)) * NO + NO = (7 - r) * NO := by
      rw [← Nat.succ_mul, show (7 - (r + 1)).succ = 7 - r by omega]
    have hlt : (7 - (r + 1)) * NO + NO < NO * 8 := by
      rw [e, Nat.mul_comm]; exact Nat.mul_lt_mul_of_pos_left (by omega) hN
    unfold waits
    rw [Prog.bind_op]
    iintro ⟨HB, HO, #Hmw⟩ HK
    ihave HO := (owed_elim d L O W) $$ HO
    icases HO with ⟨%W', %hW, HO⟩
    iapply (wp_waitBatchO countersEmb 𝒱₀ (thr d L) none (none : HIx 1) (n := 8) (N := NO) rfl hlt) $$ [HB HO]
    · isplitl [HB]; · iexact HB
      isplitl [HO]; · iexact HO
      iapply (MayWaits.elim (.dma so)) $$ Hmw
    rw [e]
    iintro ⟨HB, HO⟩
    iapply (waits_run (kk := kk) r (by omega)) $$ [HB HO] HK
    isplitl [HB]; · iexact HB
    isplitl [HO]; · iapply (owed_insert d L O W hW (.dma so)) $$ HO
    iexact Hmw

/-- The eight copies out of half `h` of trip `t`, from a block of results right everywhere. -/
theorem issues_run {so : DmaSem sig} {val : Memref sig .scVector .vmem S16384 .f32} {t : Fin k0_t1_loop.trips} {h : Fin 2} (ht : t.val < 16)
    {fe : S4096x4096.Idx → BitVec 32} {ft : S65536.Idx → F .f32} {fV : Buf (Elt F) (val.view.loc (thr d L))} {f₀ : Buf (Elt F) (oM.view.loc (thr d L))}
    (hv : ∀ y, val.view.read (Elt F) fV y = resBlk ft (codeBlk fe (row0 L + 8 * t.val) h.val) y)
    {k : TProg F L} {Q : Unit → sProp 𝕄} :
    ∀ r, r ≤ 8 → iprop((bigSep (pending (n := 8) (8 - r)) fun s : Fin 8 => val.view.loc (thr d L) ↦[cSet val s.val]{fullShare} fV)
        ∗ (bigSep (pending (n := 8) (8 - r)) fun s : Fin 8 => oM.view.loc (thr d L) ↦[oBlk (pnum L t.val h.val s.val)]{fullShare} f₀)
        ∗ Batch countersEmb (thr d L) (.dma so) (none : HIx 1) NO (outD d L val (outB d L fe ft) fV t.val h.val) (8 - r) 0)
      ⊢ iprop((Batch countersEmb (thr d L) (.dma so) (none : HIx 1) NO (outD d L val (outB d L fe ft) fV t.val h.val) 8 0
              -∗ wp frame (wpE (defs₀ (F := F)) 𝒱₀ (thr d L) none) Set.univ k Q)
          -∗ wp frame (wpE (defs₀ (F := F)) 𝒱₀ (thr d L) none) Set.univ (issues L so val t h r k) Q)
  | 0, _ => by
    unfold issues
    iintro ⟨-, -, HB⟩ HK
    iapply HK $$ HB
  | r + 1, hr => by
    have e : 8 - (r + 1) = 7 - r := by omega
    have e' : 7 - r + 1 = 8 - r := by omega
    unfold issues
    rw [e, bigSep_pending_step _ (7 - r) (by omega), bigSep_pending_step _ (7 - r) (by omega), e']
    iintro ⟨⟨Hc, Hcs⟩, ⟨Ho, Hos⟩, HB⟩ HK
    iapply (wp_dmaBatch countersEmb 𝒱₀ (thr d L) none (none : HIx 1) NO (src := chunk val r) (dst := dst L t h r) (sm := .dma so) (q := fullShare) (fs := fV) (fd := f₀)
      (D := outD d L val (outB d L fe ft) fV t.val h.val) (Sd := oBlk (pnum L t.val h.val (7 - r))) rfl (set_dst L t h r).subset (j := 7 - r) (by omega) (Nat.zero_le _) ?hD) $$ [Hc Ho HB]
    case hD =>
      unfold outD outB
      iintro ⟨Ho, Hc⟩
      isplitl [Ho]
      · iapply (Entails.of_eq (pointsTo_congr (deliver L t h r (by omega) val fe ft fV f₀ hv ht))) $$ Ho
      · iapply (Entails.of_eq (congrArg (fun S => (val.view.loc (thr d L) ↦[S]{fullShare} fV : sProp 𝕄)) (set_chunk val r (by omega)))) $$ Hc
    · isplitl [Hc]
      · iapply (Entails.of_eq (congrArg (fun S => (val.view.loc (thr d L) ↦[S]{fullShare} fV : sProp 𝕄)) (set_chunk val r (by omega)).symm)) $$ Hc
      isplitl [Ho]; · iexact Ho
      iexact HB
    rw [e']
    iintro HB
    iapply (issues_run ht hv r (by omega)) $$ [Hcs Hos HB] HK
    isplitl [Hcs]; · iexact Hcs
    isplitl [Hos]; · iexact Hos
    iexact HB

end Cert.Proof.Lookup

end
-- ==== Proof.Half.lean ====
/-
  One half of a trip, run: its codes arrive, the copies out of the trip before are waited for, its eight rows are looked
  up, its copies out start, and the next trip's codes are sent for.
-/
module

public import proofs.«01_k».proof.Proof.Copies

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

open Idealize.ShloMosaic.Transfers

local notation "𝕄" => MT nD τ sig (HIx 1) (Elt F) ℕ UU ℕ

variable (d : Dev nD) (L : grid0.Coords) (O : CellTallies nD τ sig (HIx 1)) (W : Waits sig (HIx 1))

/-- The eight lookup loops of a half: a block of results right everywhere. -/
theorem gathers_run {idx : Memref sig .scVector .vmem S8x2048 .i32} {val : Memref sig .scVector .vmem S16384 .f32} {o : Offs}
    {fi : Buf (Elt F) (idx.view.loc (thr d L))} {fl : Buf (Elt F) (lutM.view.loc (thr d L))}
    (g : S8x2048.Idx → BitVec 32) (ft : S65536.Idx → F .f32)
    (hg : idx.view.read (Elt F) fi = g) (hb : ∀ x, (g x).toNat < 65536)
    (hl : ∀ j : S65535.Idx, lutM.view.read (Elt F) fl j = ft (ix1 ⟨(j 0).val, Nat.lt_succ_of_lt (j 0).isLt⟩))
    {k : TProg F L} {Q : Unit → sProp 𝕄} :
    ∀ (r : ℕ) (f₀ : Buf (Elt F) (val.view.loc (thr d L))), r ≤ 8 → (∀ y : S16384.Idx, (y 0).val < 2048 * (8 - r) → val.view.read (Elt F) f₀ y = resBlk ft g y) →
    iprop((idx.view.loc (thr d L) ↦{fullShare} fi) ∗ (lutM.view.loc (thr d L) ↦{fullShare} fl) ∗ (val.view.loc (thr d L) ↦{fullShare} f₀))
      ⊢ iprop((∀ f : Buf (Elt F) (val.view.loc (thr d L)), ⌜∀ y : S16384.Idx, val.view.read (Elt F) f y = resBlk ft g y⌝
            -∗ ((idx.view.loc (thr d L) ↦{fullShare} fi) ∗ (lutM.view.loc (thr d L) ↦{fullShare} fl) ∗ (val.view.loc (thr d L) ↦{fullShare} f))
            -∗ wp frame (wpE (defs₀ (F := F)) 𝒱₀ (thr d L) none) Set.univ k Q)
          -∗ wp frame (wpE (defs₀ (F := F)) 𝒱₀ (thr d L) none) Set.univ (gathers L idx val o r k) Q)
  | 0, f₀, _, h₀ => by
    unfold gathers
    iintro H HK
    iapply HK $$ %f₀ [] H
    ipureintro
    intro y
    exact h₀ y (by have : (y 0).val < 16384 := (y 0).isLt; omega)
  | r + 1, f₀, hr, h₀ => by
    unfold gathers
    iintro H HK
    iapply (gather_loop d L (7 - r) (by omega) (lp := k0_t2_loop) (ok := k0_t2_ok) trips_lookup (fun _ _ => rfl) (o.hoi _) (o.hov _)
      g ft hg hb hl (fun y hy => h₀ y (by omega))) $$ H
    iintro %f %hf H
    iapply (gathers_run g ft hg hb hl r f (by omega) (fun y hy => hf y (by omega))) $$ H HK

/-! ## The copies out between trips -/

/-- A half's results before trip `t`: free before the first trip, and after that the eight copies out of the trip before
    under way. -/
def outSt (val : Memref sig .scVector .vmem S16384 .f32) (so : DmaSem sig) (fe : S4096x4096.Idx → BitVec 32) (ft : S65536.Idx → F .f32) (h : ℕ) :
    ℕ → sProp 𝕄
  | 0 => iprop((∃ f : Buf (Elt F) (val.view.loc (thr d L)), val.view.loc (thr d L) ↦{fullShare} f) ∗ semVal (thr d L, .dma so) 0)
  | t + 1 => iprop(∃ fV : Buf (Elt F) (val.view.loc (thr d L)),
      Batch countersEmb (thr d L) (.dma so) (none : HIx 1) NO (outD d L val (outB d L fe ft) fV t h) 8 0)

/-- What the waits of trip `t` bring: the blocks of the trip before. -/
def lastDone (fe : S4096x4096.Idx → BitVec 32) (ft : S65536.Idx → F .f32) (h : ℕ) : ℕ → sProp 𝕄
  | 0 => iprop(emp)
  | t + 1 => blocks d L (outB d L fe ft) h t

/-- Eight deliveries are eight blocks of the result and the block of results whole. -/
theorem deliveries (val : Memref sig .scVector .vmem S16384 .f32) (hval : val.view.set = Finset.univ) (G : Buf (Elt F) (oM.view.loc (thr d L)))
    (fV : Buf (Elt F) (val.view.loc (thr d L))) (t h : ℕ) :
    (bigSep Finset.univ (outD d L val G fV t h) : sProp 𝕄) ⊢ iprop(blocks d L G h t ∗ val.view.loc (thr d L) ↦{fullShare} fV) := by
  rw [pts_chunks d L val hval]
  exact Entails.of_eq (bigSep_sep' _ _ _)

/-- All eight waits, from the eight copies under way. -/
theorem waits_all {so : DmaSem sig} {val : Memref sig .scVector .vmem S16384 .f32} (hval : val.view.set = Finset.univ)
    {G : Buf (Elt F) (oM.view.loc (thr d L))} {fV : Buf (Elt F) (val.view.loc (thr d L))} {t h : ℕ} {kk : Unit → TProg F L} {Q : Unit → sProp 𝕄} :
    iprop(Batch countersEmb (thr d L) (.dma so) (none : HIx 1) NO (outD d L val G fV t h) 8 0 ∗ owed d L O W ∗ MayWaits (thr d L) (none : HIx 1) O)
      ⊢ iprop((iprop((val.view.loc (thr d L) ↦{fullShare} fV) ∗ semVal (thr d L, .dma so) 0 ∗ blocks d L G h t ∗ owed d L O W)
              -∗ wp frame (wpE (defs₀ (F := F)) 𝒱₀ (thr d L) none) Set.univ (kk ⟨⟩) Q)
          -∗ wp frame (wpE (defs₀ (F := F)) 𝒱₀ (thr d L) none) Set.univ (waits L so val 8 >>= kk) Q) := by
  have e : (0 : ℕ) = (7 - 7) * NO := by rw [Nat.sub_self, Nat.zero_mul]
  iintro ⟨HB, HO, Hmw⟩ HK
  iapply (waits_run d L O W (Dl := outD d L val G fV t h) 7 (by omega)) $$ [HB HO Hmw]
  · isplitl [HB]
    · rw [← e]; iexact HB
    isplitl [HO]; · iexact HO
    iexact Hmw
  iintro ⟨HD, Hv, HO⟩
  ihave HD := (deliveries d L val hval G fV t h) $$ HD
  icases HD with ⟨Hb, Hval⟩
  iapply HK
  isplitl [Hval]; · iexact Hval
  isplitl [Hv]; · iexact Hv
  isplitl [Hb]; · iexact Hb
  iexact HO

theorem drains_iff : ∀ t : Fin k0_t1_loop.trips, drains t = 1#1 ↔ 0 < t.val := by decide +kernel

/-- The waits for the trip before, if there is one. -/
theorem drain {so : DmaSem sig} {val : Memref sig .scVector .vmem S16384 .f32} (hval : val.view.set = Finset.univ) {t : Fin k0_t1_loop.trips} {h : ℕ}
    {fe : S4096x4096.Idx → BitVec 32} {ft : S65536.Idx → F .f32} {kk : Unit → TProg F L} {Q : Unit → sProp 𝕄} :
    iprop(outSt d L val so fe ft h t.val ∗ owed d L O W ∗ MayWaits (thr d L) (none : HIx 1) O)
      ⊢ iprop((∀ f : Buf (Elt F) (val.view.loc (thr d L)),
              iprop((val.view.loc (thr d L) ↦{fullShare} f) ∗ semVal (thr d L, .dma so) 0 ∗ lastDone d L fe ft h t.val ∗ owed d L O W)
              -∗ wp frame (wpE (defs₀ (F := F)) 𝒱₀ (thr d L) none) Set.univ (kk ⟨⟩) Q)
          -∗ wp frame (wpE (defs₀ (F := F)) 𝒱₀ (thr d L) none) Set.univ
              ((if _ : drains t = 1#1 then waits L so val 8 else .ret ⟨⟩ : TProg F L) >>= kk) Q) := by
  have hd := drains_iff t
  rcases ht : t.val with _ | n
  · rw [dif_neg (by rw [hd, ht]; exact lt_irrefl 0), Prog.bind_ret]
    unfold outSt lastDone
    iintro ⟨⟨⟨%f, Hval⟩, Hv⟩, HO, -⟩ HK
    iapply HK
    isplitl [Hval]; · iexact Hval
    isplitl [Hv]; · iexact Hv
    isplitr; · iempintro
    iexact HO
  · rw [dif_pos (by rw [hd, ht]; exact Nat.succ_pos n)]
    unfold outSt lastDone
    iintro ⟨⟨%fV, HB⟩, HO, Hmw⟩ HK
    iapply (waits_all d L O W hval) $$ [HB HO Hmw]
    · isplitl [HB]; · iexact HB
      isplitl [HO]; · iexact HO
      iexact Hmw
    iapply HK

/-! ## The half -/

/-- A half's codes before trip `t`: on their way for the sixteen trips, and after them nothing under way. -/
def codeSt (idx : Memref sig .scVector .vmem S8x2048 .i32) (si : DmaSem sig) (q : PosShare TreeShare) (fe : S4096x4096.Idx → BitVec 32) (h t : ℕ) : sProp 𝕄 :=
  if t < 16 then fetching d L idx si q fe (row0 L + 8 * t) h
  else iprop((eM.view.loc (thr d L) ↦{q} fe) ∗ (∃ f : Buf (Elt F) (idx.view.loc (thr d L)), idx.view.loc (thr d L) ↦{fullShare} f) ∗ semVal (thr d L, .dma si) 0)

theorem half_run {idx : Memref sig .scVector .vmem S8x2048 .i32} {hidx : idx.view.WordExact} {val : Memref sig .scVector .vmem S16384 .f32}
    (hval : val.view.set = Finset.univ)
    {si so : DmaSem sig} {o : Offs} {t : Fin k0_t1_loop.trips} {h : Fin 2} (ht : t.val < 16) {q : PosShare TreeShare}
    {oin : Fin 2 → ℕ} {hin : ∀ a, oin a + S8x2048.size a ≤ S4096x4096.size a} {cn : BitVec 1}
    {on : Fin 2 → ℕ} {hn : cn = 1#1 → ∀ a, on a + S8x2048.size a ≤ S4096x4096.size a} (hcn : cn = 1#1 ↔ t.val + 1 < 16)
    (hon : on = ![row0 L + 8 * (t.val + 1), 2048 * h.val])
    {fe : S4096x4096.Idx → BitVec 32} {ft : S65536.Idx → F .f32} (hfe : ∀ x, (fe x).toNat < 65536)
    {fl : Buf (Elt F) (lutM.view.loc (thr d L))}
    (hl : ∀ j : S65535.Idx, lutM.view.read (Elt F) fl j = ft (ix1 ⟨(j 0).val, Nat.lt_succ_of_lt (j 0).isLt⟩))
    {f₀ : Buf (Elt F) (oM.view.loc (thr d L))} {k : TProg F L} {Q : Unit → sProp 𝕄} :
    iprop(codeSt d L idx si q fe h.val t.val ∗ outSt d L val so fe ft h.val t.val ∗ blocks d L f₀ h.val t.val
        ∗ (lutM.view.loc (thr d L) ↦{fullShare} fl) ∗ owed d L O W ∗ MayWaits (thr d L) (none : HIx 1) O)
      ⊢ iprop((iprop(codeSt d L idx si q fe h.val (t.val + 1) ∗ outSt d L val so fe ft h.val (t.val + 1) ∗ lastDone d L fe ft h.val t.val
                ∗ (lutM.view.loc (thr d L) ↦{fullShare} fl) ∗ owed d L O W)
              -∗ wp frame (wpE (defs₀ (F := F)) 𝒱₀ (thr d L) none) Set.univ k Q)
          -∗ wp frame (wpE (defs₀ (F := F)) 𝒱₀ (thr d L) none) Set.univ (half L idx hidx val si so o t h oin hin (drains t) cn on hn k) Q) := by
  unfold half codeSt
  rw [if_pos ht]
  iintro ⟨Hc, Hs, Hb, Hl, HO, #Hmw⟩ HK
  iapply (fetch_wait d L O W) $$ [Hc HO]
  · isplitl [Hc]; · iexact Hc
    isplitl [HO]; · iexact HO
    iexact Hmw
  iintro %fi %hfi ⟨Hi, He, Hsi, HO⟩
  iapply (drain d L O W hval) $$ [Hs HO]
  · isplitl [Hs]; · iexact Hs
    isplitl [HO]; · iexact HO
    iexact Hmw
  iintro %f ⟨Hval, Hso, Hdone, HO⟩
  have hb : ∀ x, (codeBlk fe (row0 L + 8 * t.val) h.val x).toNat < 65536 := by
    intro x
    unfold codeBlk
    split
    · exact hfe _
    · norm_num
  iapply (gathers_run d L _ ft hfi hb hl 8 f (le_refl 8) (fun y hy => absurd hy (by omega))) $$ [Hi Hl Hval]
  · isplitl [Hi]; · iexact Hi
    isplitl [Hl]; · iexact Hl
    iexact Hval
  iintro %fV %hfV ⟨Hi, Hl, Hval⟩
  imod (batch_alloc' countersEmb (thr d L) (none : HIx 1) NO (outD d L val (outB d L fe ft) fV t.val h.val) (sm := .dma so) (E := Set.univ)) $$ Hso with HB
  iapply (issues_run d L (val := val) (f₀ := f₀) (fV := fV) ht hfV 8 (le_refl 8)) $$ [Hval Hb HB]
  · isplitl [Hval]
    · iapply (Entails.of_eq ((pts_chunks d L val hval fV).trans (bigSep_pending_zero _))) $$ Hval
    isplitl [Hb]
    · iapply (show (blocks d L f₀ h.val t.val : sProp 𝕄) ⊢ _ from Entails.of_eq (bigSep_pending_zero _)) $$ Hb
    iexact HB
  iintro HB
  by_cases hc : cn = 1#1
  · rw [dif_pos hc, if_pos (hcn.mp hc), Prog.bind_op]
    iapply (fetch_issue d L (hidx := hidx) (q := q) (fe := fe) hon) $$ [He Hi Hsi]
    · isplitl [He]; · iexact He
      isplitl [Hi]; · iexact Hi
      iexact Hsi
    iintro Hc
    rw [Prog.bind_ret]
    iapply HK
    isplitl [Hc]; · iexact Hc
    isplitl [HB]
    · unfold outSt
      iexists fV
      iexact HB
    isplitl [Hdone]; · iexact Hdone
    isplitl [Hl]; · iexact Hl
    iexact HO
  · rw [dif_neg hc, if_neg (fun hlt => hc (hcn.mpr hlt)), Prog.bind_ret]
    iapply HK
    isplitl [He Hi Hsi]
    · isplitl [He]; · iexact He
      isplitl [Hi]; · iexists fi; iexact Hi
      iexact Hsi
    isplitl [HB]
    · unfold outSt
      iexists fV
      iexact HB
    isplitl [Hdone]; · iexact Hdone
    isplitl [Hl]; · iexact Hl
    iexact HO

end Cert.Proof.Lookup

end
-- ==== Proof.Trips.lean ====
/-
  The tile, run: two blocks of codes are sent for and the table is copied, sixteen trips run with the next trip's codes
  and the trip before's results under way, and the last results are waited for.
-/
module

public import proofs.«01_k».proof.Proof.Half

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

open Idealize.ShloMosaic.Transfers

local notation "𝕄" => MT nD τ sig (HIx 1) (Elt F) ℕ UU ℕ

variable (d : Dev nD) (L : grid0.Coords) (O : CellTallies nD τ sig (HIx 1)) (W : Waits sig (HIx 1))

/-! ## A half between trips -/

/-- The blocks of half `h` that are finished before trip `t`: those of all trips but the last one run. -/
def doneSt (fe : S4096x4096.Idx → BitVec 32) (ft : S65536.Idx → F .f32) (h t : ℕ) : sProp 𝕄 :=
  bigSep (Finset.range (t - 1)) fun i => blocks d L (outB d L fe ft) h i

/-- The blocks of half `h` not yet written before trip `t`. -/
def todoSt (f₀ : Buf (Elt F) (oM.view.loc (thr d L))) (h t : ℕ) : sProp 𝕄 :=
  bigSep (Finset.Ico t 16) fun i => blocks d L f₀ h i

theorem todo_step (f₀ : Buf (Elt F) (oM.view.loc (thr d L))) (h : ℕ) {t : ℕ} (ht : t < 16) :
    (todoSt d L f₀ h t : sProp 𝕄) ⊢ iprop(blocks d L f₀ h t ∗ todoSt d L f₀ h (t + 1)) := by
  unfold todoSt
  rw [← Finset.insert_Ico_add_one_left_eq_Ico ht]
  exact Entails.of_eq (SparseCore.bigSep_insert' (by simp))

theorem done_step (fe : S4096x4096.Idx → BitVec 32) (ft : S65536.Idx → F .f32) (h : ℕ) :
    ∀ t, iprop(lastDone d L fe ft h t ∗ doneSt d L fe ft h t) ⊢ (doneSt d L fe ft h (t + 1) : sProp 𝕄)
  | 0 => by
    unfold doneSt lastDone
    iintro ⟨-, H⟩
    iexact H
  | t + 1 => by
    unfold doneSt lastDone
    rw [show t + 1 + 1 - 1 = t + 1 from rfl, show t + 1 - 1 = t from rfl, Finset.range_add_one]
    exact Entails.of_eq (SparseCore.bigSep_insert' (Φ := fun i => blocks d L (outB d L fe ft) h i) Finset.notMem_range_self).symm

/-- All that half `h` holds before trip `t`: its codes, its results and its blocks of the flat result. -/
def halfSt (idx : Memref sig .scVector .vmem S8x2048 .i32) (val : Memref sig .scVector .vmem S16384 .f32) (si so : DmaSem sig) (q : PosShare TreeShare)
    (fe : S4096x4096.Idx → BitVec 32) (ft : S65536.Idx → F .f32) (f₀ : Buf (Elt F) (oM.view.loc (thr d L))) (h t : ℕ) : sProp 𝕄 :=
  iprop(codeSt d L idx si q fe h t ∗ outSt d L val so fe ft h t ∗ doneSt d L fe ft h t ∗ todoSt d L f₀ h t)

theorem half_step {idx : Memref sig .scVector .vmem S8x2048 .i32} {hidx : idx.view.WordExact} {val : Memref sig .scVector .vmem S16384 .f32}
    (hval : val.view.set = Finset.univ)
    {si so : DmaSem sig} {o : Offs} {t : Fin k0_t1_loop.trips} {h : Fin 2} (ht : t.val < 16) {q : PosShare TreeShare}
    {oin : Fin 2 → ℕ} {hin : ∀ a, oin a + S8x2048.size a ≤ S4096x4096.size a} {cn : BitVec 1}
    {on : Fin 2 → ℕ} {hn : cn = 1#1 → ∀ a, on a + S8x2048.size a ≤ S4096x4096.size a} (hcn : cn = 1#1 ↔ t.val + 1 < 16)
    (hon : on = ![row0 L + 8 * (t.val + 1), 2048 * h.val])
    {fe : S4096x4096.Idx → BitVec 32} {ft : S65536.Idx → F .f32} (hfe : ∀ x, (fe x).toNat < 65536)
    {fl : Buf (Elt F) (lutM.view.loc (thr d L))}
    (hl : ∀ j : S65535.Idx, lutM.view.read (Elt F) fl j = ft (ix1 ⟨(j 0).val, Nat.lt_succ_of_lt (j 0).isLt⟩))
    {f₀ : Buf (Elt F) (oM.view.loc (thr d L))} {k : TProg F L} {Q : Unit → sProp 𝕄} :
    iprop(halfSt d L idx val si so q fe ft f₀ h.val t.val
        ∗ (lutM.view.loc (thr d L) ↦{fullShare} fl) ∗ owed d L O W ∗ MayWaits (thr d L) (none : HIx 1) O)
      ⊢ iprop((iprop(halfSt d L idx val si so q fe ft f₀ h.val (t.val + 1) ∗ (lutM.view.loc (thr d L) ↦{fullShare} fl) ∗ owed d L O W)
              -∗ wp frame (wpE (defs₀ (F := F)) 𝒱₀ (thr d L) none) Set.univ k Q)
          -∗ wp frame (wpE (defs₀ (F := F)) 𝒱₀ (thr d L) none) Set.univ (half L idx hidx val si so o t h oin hin (drains t) cn on hn k) Q) := by
  unfold halfSt
  iintro ⟨⟨Hc, Hs, Hd, Ht⟩, Hl, HO, Hmw⟩ HK
  ihave Ht := (todo_step d L f₀ h.val ht) $$ Ht
  icases Ht with ⟨Hb, Ht⟩
  iapply (half_run d L O W hval ht hcn hon hfe hl (f₀ := f₀)) $$ [Hc Hs Hb Hl HO Hmw]
  · isplitl [Hc]; · iexact Hc
    isplitl [Hs]; · iexact Hs
    isplitl [Hb]; · iexact Hb
    isplitl [Hl]; · iexact Hl
    isplitl [HO]; · iexact HO
    iexact Hmw
  iintro ⟨Hc, Hs, Hb, Hl, HO⟩
  iapply HK
  isplitr [Hl HO]
  · isplitl [Hc]; · iexact Hc
    isplitl [Hs]; · iexact Hs
    isplitl [Hb Hd]
    · iapply (done_step d L fe ft h.val t.val)
      isplitl [Hb]; · iexact Hb
      iexact Hd
    iexact Ht
  isplitl [Hl]; · iexact Hl
  iexact HO

/-! ## The trips -/

theorem trips_tile : k0_t1_loop.trips = 16 := by decide +kernel
theorem cond2_iff : ∀ t : Fin k0_t1_loop.trips, k0_cond2 t = 1#1 ↔ t.val + 1 < 16 := by decide +kernel
theorem cond4_iff : ∀ t : Fin k0_t1_loop.trips, k0_cond4 t = 1#1 ↔ t.val + 1 < 16 := by decide +kernel

theorem set_val0 : val0M.view.set = Finset.univ := View.set_whole _
theorem set_val1 : val1M.view.set = Finset.univ := View.set_whole _

/-- What the tile holds before trip `t`. -/
def tileSt (q0 q1 : PosShare TreeShare) (fe : S4096x4096.Idx → BitVec 32) (ft : S65536.Idx → F .f32) (f₀ : Buf (Elt F) (oM.view.loc (thr d L)))
    (fl : Buf (Elt F) (lutM.view.loc (thr d L))) (t : ℕ) : sProp 𝕄 :=
  iprop(halfSt d L idx0M val0M cc0_scratch5.sem cc0_scratch7.sem q0 fe ft f₀ 0 t ∗ halfSt d L idx1M val1M cc0_scratch6.sem cc0_scratch8.sem q1 fe ft f₀ 1 t
    ∗ (lutM.view.loc (thr d L) ↦{fullShare} fl) ∗ owed d L O W)

section Trips
variable {q0 q1 : PosShare TreeShare} {fe : S4096x4096.Idx → BitVec 32} {ft : S65536.Idx → F .f32} (hfe : ∀ x, (fe x).toNat < 65536)
  {fl : Buf (Elt F) (lutM.view.loc (thr d L))}
  (hl : ∀ j : S65535.Idx, lutM.view.read (Elt F) fl j = ft (ix1 ⟨(j 0).val, Nat.lt_succ_of_lt (j 0).isLt⟩))
  {f₀ : Buf (Elt F) (oM.view.loc (thr d L))}
include hfe hl

theorem trip_run (t : Fin k0_t1_loop.trips) :
    iprop(tileSt d L O W q0 q1 fe ft f₀ fl t.val ∗ MayWaits (thr d L) (none : HIx 1) O)
      ⊢ wp frame (wpE (defs₀ (F := F)) 𝒱₀ (thr d L) none) Set.univ (trip L t) fun _ => (tileSt d L O W q0 q1 fe ft f₀ fl (t.val + 1) : sProp 𝕄) := by
  have ht : t.val < 16 := lt_of_lt_of_eq t.isLt trips_tile
  unfold tileSt trip
  iintro ⟨⟨H0, H1, Hl, HO⟩, #Hmw⟩
  iapply (half_step d L O W (h := 0) (idx := idx0M) (val := val0M) set_val0 ht (cond2_iff t) (k0_off21_eq L t) hfe hl) $$ [H0 Hl HO]
  · isplitl [H0]; · iexact H0
    isplitl [Hl]; · iexact Hl
    isplitl [HO]; · iexact HO
    iexact Hmw
  iintro ⟨H0, Hl, HO⟩
  iapply (half_step d L O W (h := 1) (idx := idx1M) (val := val1M) set_val1 ht (cond4_iff t) (k0_off39_eq L t) hfe hl) $$ [H1 Hl HO]
  · isplitl [H1]; · iexact H1
    isplitl [Hl]; · iexact Hl
    isplitl [HO]; · iexact HO
    iexact Hmw
  iintro ⟨H1, Hl, HO⟩
  rw [wp_ret]; imodintro
  isplitl [H0]; · iexact H0
  isplitl [H1]; · iexact H1
  isplitl [Hl]; · iexact Hl
  iexact HO

theorem trips_run {kk : Unit → TProg F L} {Q : Unit → sProp 𝕄} :
    iprop(tileSt d L O W q0 q1 fe ft f₀ fl 0 ∗ MayWaits (thr d L) (none : HIx 1) O)
      ⊢ iprop((tileSt d L O W q0 q1 fe ft f₀ fl 16 -∗ wp frame (wpE (defs₀ (F := F)) 𝒱₀ (thr d L) none) Set.univ (kk ⟨⟩) Q)
          -∗ wp frame (wpE (defs₀ (F := F)) 𝒱₀ (thr d L) none) Set.univ
              (Scf.Loop.for k0_t1_loop k0_t1_ok ⟨⟩ (fun t _ => trip L t) >>= kk) Q) := by
  have htr : Scf.trips k0_t1_loop.lb k0_t1_loop.ub k0_t1_loop.st = 16 := trips_tile
  iintro ⟨H, #Hmw⟩ HK
  iapply (Scf.wp_for_bind frame (wpE (defs₀ (F := F)) 𝒱₀ (thr d L) none) Set.univ k0_t1_loop.lb k0_t1_loop.ub k0_t1_loop.st k0_t1_ok ⟨⟩ (fun t _ => trip L t)
    (fun t _ => iprop(tileSt d L O W q0 q1 fe ft f₀ fl t ∗ MayWaits (thr d L) (none : HIx 1) O)) ?step) $$ [H]
  case step =>
    intro t _
    iintro ⟨H, #Hmw⟩
    iapply (wp_wand frame (wpE (defs₀ (F := F)) 𝒱₀ (thr d L) none) Set.univ) $$ [H]
    · iapply (trip_run d L O W hfe hl t)
      isplitl [H]; · iexact H
      iexact Hmw
    iintro %u H
    isplitl [H]; · iexact H
    iexact Hmw
  · isplitl [H]; · iexact H
    iexact Hmw
  rw [htr]
  iintro %u ⟨H, -⟩
  iapply HK $$ H

end Trips

end Cert.Proof.Lookup

end
-- ==== Proof.Tile.lean ====
/-
  The tile as a whole: what it needs, and what it leaves — its part of the flat result, right everywhere.
-/
module

public import proofs.«01_k».proof.Proof.Trips

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

open Idealize.ShloMosaic.Transfers

local notation "𝕄" => MT nD τ sig (HIx 1) (Elt F) ℕ UU ℕ

/-! ## A tile's part of the flat result -/

/-- The words of tile `n`: an unbroken run of 524288. -/
def oTile (n : ℕ) : Finset S16777216.Idx := Finset.univ.filter fun j => (j 0).val / 524288 = n

/-- Those of one half of the columns, -/
def oHalf (n h : ℕ) : Finset S16777216.Idx := Finset.univ.filter fun j => (j 0).val / 524288 = n ∧ (j 0).val / 2048 % 2 = h

/-- and of those the ones of one trip. -/
def oTrip (n h t : ℕ) : Finset S16777216.Idx := Finset.univ.filter fun j => (j 0).val / 32768 = 16 * n + t ∧ (j 0).val / 2048 % 2 = h

theorem mem_oTile {n : ℕ} {j : S16777216.Idx} : j ∈ oTile n ↔ (j 0).val / 524288 = n := by unfold oTile; simp
theorem mem_oHalf {n h : ℕ} {j : S16777216.Idx} : j ∈ oHalf n h ↔ (j 0).val / 524288 = n ∧ (j 0).val / 2048 % 2 = h := by unfold oHalf; simp
theorem mem_oTrip {n h t : ℕ} {j : S16777216.Idx} : j ∈ oTrip n h t ↔ (j 0).val / 32768 = 16 * n + t ∧ (j 0).val / 2048 % 2 = h := by
  unfold oTrip; simp

theorem oTile_halves (n : ℕ) : oTile n = (Finset.univ : Finset (Fin 2)).biUnion fun h => oHalf n h.val := by
  refine Finset.ext fun (j : S16777216.Idx) => ?_
  rw [Finset.mem_biUnion, mem_oTile]
  constructor
  · intro hj
    exact ⟨⟨(j 0).val / 2048 % 2, Nat.mod_lt _ (by norm_num)⟩, Finset.mem_univ _, mem_oHalf.mpr ⟨hj, rfl⟩⟩
  · rintro ⟨h, -, hj⟩
    exact (mem_oHalf.mp hj).1

theorem oHalf_trips (n h : ℕ) : oHalf n h = (Finset.Ico 0 16).biUnion fun t => oTrip n h t := by
  refine Finset.ext fun (j : S16777216.Idx) => ?_
  rw [Finset.mem_biUnion, mem_oHalf]
  constructor
  · rintro ⟨hj, hh⟩
    exact ⟨(j 0).val / 32768 - 16 * n, Finset.mem_Ico.mpr ⟨Nat.zero_le _, by omega⟩, mem_oTrip.mpr ⟨by omega, hh⟩⟩
  · rintro ⟨t, ht, hj⟩
    have h1 := Finset.mem_Ico.mp ht
    have h2 := mem_oTrip.mp hj
    exact ⟨by omega, h2.2⟩

theorem oTrip_rows (L : grid0.Coords) (h t : ℕ) (hh : h < 2) :
    oTrip (2 * (L 1).val + (L 0).val) h t = (Finset.univ : Finset (Fin 8)).biUnion fun s => oBlk (pnum L t h s.val) := by
  refine Finset.ext fun (j : S16777216.Idx) => ?_
  rw [Finset.mem_biUnion, mem_oTrip]
  unfold pnum row0
  constructor
  · rintro ⟨h1, h2⟩
    exact ⟨⟨(j 0).val / 4096 % 8, Nat.mod_lt _ (by norm_num)⟩, Finset.mem_univ _, mem_oBlk.mpr (show _ = 2 * (_ + (j 0).val / 4096 % 8) + h by omega)⟩
  · rintro ⟨s, -, hj⟩
    have h1 := mem_oBlk.mp hj
    have h2 := s.isLt
    constructor <;> omega

variable (d : Dev nD) (L : grid0.Coords)

/-- A tile's part of the flat result is all the blocks of its two halves. -/
theorem pts_tile (f : Buf (Elt F) (oM.view.loc (thr d L))) :
    (oM.view.loc (thr d L) ↦[oTile (2 * (L 1).val + (L 0).val)]{fullShare} f : sProp 𝕄) = iprop(todoSt d L f 0 0 ∗ todoSt d L f 1 0) := by
  have hh : ∀ h : Fin 2, (oM.view.loc (thr d L) ↦[oHalf (2 * (L 1).val + (L 0).val) h.val]{fullShare} f : sProp 𝕄) = todoSt d L f h.val 0 := by
    intro h
    unfold todoSt blocks
    rw [oHalf_trips, pointsTo_biUnion]
    · refine bigSep_congr fun t ht => ?_
      rw [oTrip_rows L h.val t h.isLt, pointsTo_biUnion]
      intro s _ s' _ hs
      exact oBlk_disjoint fun e => hs (Fin.ext (by unfold pnum at e; omega))
    · intro t _ t' _ htt
      exact Finset.disjoint_left.mpr fun j h1 h2 => htt (by have := (mem_oTrip.mp h1).1; have := (mem_oTrip.mp h2).1; omega)
  rw [oTile_halves, pointsTo_biUnion]
  · rw [bigSep_congr fun h _ => hh h]
    exact BI.bigSep_fin_two _
  · intro h _ h' _ hne
    exact Finset.disjoint_left.mpr fun j h1 h2 => hne (Fin.ext ((mem_oHalf.mp h1).2.symm.trans (mem_oHalf.mp h2).2))

variable (O : CellTallies nD τ sig (HIx 1)) (W : Waits sig (HIx 1))

/-! ## Start and end of a half -/

theorem half_start {idx : Memref sig .scVector .vmem S8x2048 .i32} {val : Memref sig .scVector .vmem S16384 .f32} {si so : DmaSem sig} {q : PosShare TreeShare}
    {fe : S4096x4096.Idx → BitVec 32} {ft : S65536.Idx → F .f32} {f₀ : Buf (Elt F) (oM.view.loc (thr d L))} {h : ℕ} :
    iprop(fetching d L idx si q fe (row0 L) h ∗ (∃ f : Buf (Elt F) (val.view.loc (thr d L)), val.view.loc (thr d L) ↦{fullShare} f)
        ∗ semVal (thr d L, .dma so) 0 ∗ todoSt d L f₀ h 0)
      ⊢ (halfSt d L idx val si so q fe ft f₀ h 0 : sProp 𝕄) := by
  unfold halfSt codeSt outSt doneSt
  rw [if_pos (by norm_num), Finset.range_zero, bigSep_empty]
  iintro ⟨Hf, Hv, Hs, Ht⟩
  isplitl [Hf]; · iexact Hf
  isplitl [Hv Hs]
  · isplitl [Hv]; · iexact Hv
    iexact Hs
  isplitr; · iempintro
  iexact Ht

theorem half_end {idx : Memref sig .scVector .vmem S8x2048 .i32} {val : Memref sig .scVector .vmem S16384 .f32} (hval : val.view.set = Finset.univ)
    {si so : DmaSem sig} {q : PosShare TreeShare}
    {fe : S4096x4096.Idx → BitVec 32} {ft : S65536.Idx → F .f32} {f₀ : Buf (Elt F) (oM.view.loc (thr d L))} {h : ℕ}
    {kk : Unit → TProg F L} {Q : Unit → sProp 𝕄} :
    iprop(halfSt d L idx val si so q fe ft f₀ h (15 + 1) ∗ owed d L O W ∗ MayWaits (thr d L) (none : HIx 1) O)
      ⊢ iprop((iprop((eM.view.loc (thr d L) ↦{q} fe) ∗ (∃ f : Buf (Elt F) (idx.view.loc (thr d L)), idx.view.loc (thr d L) ↦{fullShare} f)
                ∗ semVal (thr d L, .dma si) 0 ∗ (∃ f : Buf (Elt F) (val.view.loc (thr d L)), val.view.loc (thr d L) ↦{fullShare} f)
                ∗ semVal (thr d L, .dma so) 0 ∗ todoSt d L (outB d L fe ft) h 0 ∗ owed d L O W)
              -∗ wp frame (wpE (defs₀ (F := F)) 𝒱₀ (thr d L) none) Set.univ (kk ⟨⟩) Q)
          -∗ wp frame (wpE (defs₀ (F := F)) 𝒱₀ (thr d L) none) Set.univ (waits L so val 8 >>= kk) Q) := by
  unfold halfSt codeSt outSt
  rw [if_neg (by norm_num)]
  iintro ⟨⟨⟨He, Hi, Hsi⟩, ⟨%fV, HB⟩, Hd, -⟩, HO, Hmw⟩ HK
  iapply (waits_all d L O W hval) $$ [HB HO Hmw]
  · isplitl [HB]; · iexact HB
    isplitl [HO]; · iexact HO
    iexact Hmw
  iintro ⟨Hv, Hso, Hb, HO⟩
  iapply HK
  isplitl [He]; · iexact He
  isplitl [Hi]; · iexact Hi
  isplitl [Hsi]; · iexact Hsi
  isplitl [Hv]; · iexists fV; iexact Hv
  isplitl [Hso]; · iexact Hso
  isplitl [Hb Hd]
  · iapply (show iprop(lastDone d L fe ft h (15 + 1) ∗ doneSt d L fe ft h (15 + 1)) ⊢ (todoSt d L (outB d L fe ft) h 0 : sProp 𝕄) from
      (done_step d L fe ft h (15 + 1)).trans (Entails.of_eq (by unfold doneSt todoSt; rw [Finset.range_eq_Ico])))
    isplitl [Hb]
    · unfold lastDone; iexact Hb
    iexact Hd
  iexact HO

/-! ## The copy of the table -/

/-- The tile's copy of the table: entry by entry the table's own, all but the last. -/
theorem table_copy {q : PosShare TreeShare} {ft : S65536.Idx → F .f32} {f : Buf (Elt F) (lutM.view.loc (thr d L))} {sm : DmaSem sig}
    {hs ht hm hs' ht'} {k : TProg F L} {Q : Unit → sProp 𝕄} :
    iprop((tM.view.loc (thr d L) ↦{q} ft) ∗ (lutM.view.loc (thr d L) ↦{fullShare} f) ∗ semVal (thr d L, .dma sm) 0 ∗ owed d L O W
        ∗ MayWaits (thr d L) (none : HIx 1) O)
      ⊢ iprop((∀ fl : Buf (Elt F) (lutM.view.loc (thr d L)),
              ⌜∀ j : S65535.Idx, lutM.view.read (Elt F) fl j = ft (ix1 ⟨(j 0).val, Nat.lt_succ_of_lt (j 0).isLt⟩)⌝
              -∗ ((tM.view.loc (thr d L) ↦{q} ft) ∗ (lutM.view.loc (thr d L) ↦{fullShare} fl) ∗ semVal (thr d L, .dma sm) 0 ∗ owed d L O W)
              -∗ wp frame (wpE (defs₀ (F := F)) 𝒱₀ (thr d L) none) Set.univ k Q)
          -∗ wp frame (wpE (defs₀ (F := F)) 𝒱₀ (thr d L) none) Set.univ
              (.op (.enqueueDma lutSrc (.here lutM) (.dma sm) hs ht hm) fun _ => .op (.waitDma2 sm lutSrc lutM hs' ht') fun _ => k) Q) := by
  iintro ⟨Ht, Hl, Hv, HO, Hmw⟩ HK
  ihave HO := (owed_elim d L O W) $$ HO
  icases HO with ⟨%W', %hW, HO⟩
  ihave Ht := (show (tM.view.loc (thr d L) ↦{q} ft : sProp 𝕄)
      ⊢ iprop((tM.view.loc (thr d L) ↦[lutSrc.view.set]{q} ft) ∗ (tM.view.loc (thr d L) ↦[Finset.univ \ lutSrc.view.set]{q} ft))
      from (pointsTo_split_subset (Finset.subset_univ _)).1) $$ Ht
  icases Ht with ⟨Ht, Hr⟩
  iapply (wp_dmaLocal countersEmb 𝒱₀ (thr d L) none (none : HIx 1) lutM.view.dmaCredit rfl (View.dmaCredit_pos _ (by decide)) (Finset.subset_univ _)) $$ [Ht Hl Hv]
  · isplitl [Ht]; · iexact Ht
    isplitl [Hl]; · iexact Hl
    iexact Hv
  iintro HF
  iapply (wp_waitLocalO countersEmb 𝒱₀ (thr d L) none (none : HIx 1) rfl) $$ [HF HO Hmw]
  · isplitl [HF]; · iexact HF
    isplitl [HO]; · iexact HO
    iapply (MayWaits.elim (.dma sm)) $$ Hmw
  iintro ⟨⟨Hl, Ht⟩, Hv, HO⟩
  ihave Ht := (show iprop((tM.view.loc (thr d L) ↦[lutSrc.view.set]{q} ft) ∗ (tM.view.loc (thr d L) ↦[Finset.univ \ lutSrc.view.set]{q} ft))
      ⊢ (tM.view.loc (thr d L) ↦{q} ft : sProp 𝕄)
      from (pointsTo_split_subset (Finset.subset_univ _)).2) $$ [Ht Hr]
  · isplitl [Ht]; · iexact Ht
    iexact Hr
  iapply HK $$ %_ [] [Ht Hl Hv HO]
  rotate_left
  · isplitl [Ht]; · iexact Ht
    isplitl [Hl]; · iexact Hl
    isplitl [Hv]; · iexact Hv
    iapply (owed_insert d L O W hW (.dma sm)) $$ HO
  · ipureintro
    intro j
    rw [View.read_write_univ]
    show ft ((Rect.unit (s := S65536) ![0] S65535.size Facts₀.inb_S65536_S65535_0).emb j) = _
    refine congrArg ft (funext fun (a : Fin 1) => Fin.ext ?_)
    obtain rfl : a = 0 := Subsingleton.elim _ _
    rw [Rect.emb_apply]
    show 0 + 1 * (j 0).val = (j 0).val
    omega

/-! ## The tile -/

/-- What a tile's program works on beside its part of the result: read shares of the codes and of the table, the tile's
    own memory and its semaphores, all at zero. -/
def tools (q0 q1 qt : PosShare TreeShare) (fe : S4096x4096.Idx → BitVec 32) (ft : S65536.Idx → F .f32) : sProp 𝕄 :=
  iprop((eM.view.loc (thr d L) ↦{q0} fe) ∗ (eM.view.loc (thr d L) ↦{q1} fe) ∗ (tM.view.loc (thr d L) ↦{qt} ft)
    ∗ (∃ f : Buf (Elt F) (lutM.view.loc (thr d L)), lutM.view.loc (thr d L) ↦{fullShare} f)
    ∗ (∃ f : Buf (Elt F) (idx0M.view.loc (thr d L)), idx0M.view.loc (thr d L) ↦{fullShare} f)
    ∗ (∃ f : Buf (Elt F) (idx1M.view.loc (thr d L)), idx1M.view.loc (thr d L) ↦{fullShare} f)
    ∗ (∃ f : Buf (Elt F) (val0M.view.loc (thr d L)), val0M.view.loc (thr d L) ↦{fullShare} f)
    ∗ (∃ f : Buf (Elt F) (val1M.view.loc (thr d L)), val1M.view.loc (thr d L) ↦{fullShare} f)
    ∗ semVal (thr d L, .dma cc0_scratch5.sem) 0 ∗ semVal (thr d L, .dma cc0_scratch6.sem) 0
    ∗ semVal (thr d L, .dma cc0_scratch7.sem) 0 ∗ semVal (thr d L, .dma cc0_scratch8.sem) 0
    ∗ semVal (thr d L, .dma cc0_scoped0.sem) 0)

/-- The tile's run: from any contents of its part of the flat result to the entries of its codes, everything else as it was. -/
theorem tile_run {q0 q1 qt : PosShare TreeShare} {fe : S4096x4096.Idx → BitVec 32} {ft : S65536.Idx → F .f32} (hfe : ∀ x, (fe x).toNat < 65536)
    {f₀ : Buf (Elt F) (oM.view.loc (thr d L))} :
    iprop(MayWaits (thr d L) (none : HIx 1) O ∗ tools d L q0 q1 qt fe ft
        ∗ (oM.view.loc (thr d L) ↦[oTile (2 * (L 1).val + (L 0).val)]{fullShare} f₀) ∗ owed d L O W)
      ⊢ wp frame (wpE (defs₀ (F := F)) 𝒱₀ (thr d L) none) Set.univ (tile L)
          fun _ => (iprop(tools d L q0 q1 qt fe ft ∗ (oM.view.loc (thr d L) ↦[oTile (2 * (L 1).val + (L 0).val)]{fullShare} outB d L fe ft) ∗ owed d L O W) : sProp 𝕄) := by
  rw [pts_tile d L f₀, pts_tile d L (outB d L fe ft)]
  unfold tools tile
  iintro ⟨#Hmw, ⟨He0, He1, Ht, ⟨%f, Hl⟩, ⟨%fi0, Hi0⟩, ⟨%fi1, Hi1⟩, Hv0, Hv1, H5, H6, H7, H8, H9⟩, ⟨Ho0, Ho1⟩, HO⟩
  iapply (fetch_issue d L (idx := idx0M) (hidx := (Memref.isWhole_whole _).wordExact) (r := row0 L) (h := 0) (k0_off1_eq L)) $$ [He0 Hi0 H5]
  · isplitl [He0]; · iexact He0
    isplitl [Hi0]; · iexact Hi0
    iexact H5
  iintro Hf0
  iapply (fetch_issue d L (idx := idx1M) (hidx := (Memref.isWhole_whole _).wordExact) (r := row0 L) (h := 1) (k0_off2_eq L)) $$ [He1 Hi1 H6]
  · isplitl [He1]; · iexact He1
    isplitl [Hi1]; · iexact Hi1
    iexact H6
  iintro Hf1
  iapply (table_copy d L O W) $$ [Ht Hl H9 HO]
  · isplitl [Ht]; · iexact Ht
    isplitl [Hl]; · iexact Hl
    isplitl [H9]; · iexact H9
    isplitl [HO]; · iexact HO
    iexact Hmw
  iintro %fl %hl ⟨Ht, Hl, H9, HO⟩
  iapply (trips_run d L O W (q0 := q0) (q1 := q1) (f₀ := f₀) hfe hl) $$ [Hf0 Hf1 Hv0 Hv1 H7 H8 Ho0 Ho1 Hl HO]
  · isplitl
    · unfold tileSt
      isplitl [Hf0 Hv0 H7 Ho0]
      · iapply (half_start d L)
        isplitl [Hf0]; · iexact Hf0
        isplitl [Hv0]; · iexact Hv0
        isplitl [H7]; · iexact H7
        iexact Ho0
      isplitl [Hf1 Hv1 H8 Ho1]
      · iapply (half_start d L)
        isplitl [Hf1]; · iexact Hf1
        isplitl [Hv1]; · iexact Hv1
        isplitl [H8]; · iexact H8
        iexact Ho1
      isplitl [Hl]; · iexact Hl
      iexact HO
    · iexact Hmw
  unfold tileSt
  iintro ⟨Hh0, Hh1, Hl, HO⟩
  iapply (half_end d L O W (idx := idx0M) (val := val0M) (h := 0) set_val0) $$ [Hh0 HO]
  · isplitl [Hh0]; · iexact Hh0
    isplitl [HO]; · iexact HO
    iexact Hmw
  iintro ⟨He0, Hi0, H5, Hv0, H7, Ho0, HO⟩
  rw [← Prog.bind_pure (waits L cc0_scratch8.sem val1M 8)]
  iapply (half_end d L O W (idx := idx1M) (val := val1M) (h := 1) set_val1) $$ [Hh1 HO]
  · isplitl [Hh1]; · iexact Hh1
    isplitl [HO]; · iexact HO
    iexact Hmw
  iintro ⟨He1, Hi1, H6, Hv1, H8, Ho1, HO⟩
  rw [wp_pure]; imodintro
  isplitr [Ho0 Ho1 HO]
  · isplitl [He0]; · iexact He0
    isplitl [He1]; · iexact He1
    isplitl [Ht]; · iexact Ht
    isplitl [Hl]; · iexists fl; iexact Hl
    isplitl [Hi0]; · iexact Hi0
    isplitl [Hi1]; · iexact Hi1
    isplitl [Hv0]; · iexact Hv0
    isplitl [Hv1]; · iexact Hv1
    isplitl [H5]; · iexact H5
    isplitl [H6]; · iexact H6
    isplitl [H7]; · iexact H7
    isplitl [H8]; · iexact H8
    iexact H9
  isplitl [Ho0 Ho1]
  · isplitl [Ho0]; · iexact Ho0
    iexact Ho1
  iexact HO

end Cert.Proof.Lookup

end
-- ==== Proof.Payload.lean ====
/-
  What the launch carries: each SparseCore gets a read share of the codes and of the table and its tiles' words of the
  flat result, each tile a share of those shares and its own words; everything comes back, the words right.
-/
module

public import proofs.«01_k».proof.Proof.Tile
public import Idealize.ShloMosaic.Lib.SparseCore.Quiescent

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

open Idealize.ShloMosaic.Transfers

local notation "𝕄" => MT nD τ sig (HIx 1) (Elt F) ℕ UU ℕ

variable (m : (ℓ : Loc nD τ sig) → Buf (Elt F) ℓ) (d : Dev nD)

/-- The codes the program starts from, -/
abbrev codes : S4096x4096.Idx → BitVec 32 := m (eLoc d)
/-- the table as one row, as @main reshapes it, -/
def tab : S65536.Idx → F .f32 := shapeCast S65536 (show S65536x1.Idx → F .f32 from m (cLoc d)) shapeCasts_S65536x1_S65536
/-- and the flat result it computes. -/
def flat : Buf (Elt F) (oLoc d) := outVal (F := F) (codes m d) (tab m d)

/-! ## Shares and parts -/

/-- SparseCore `c`'s read share, -/
def coreShare (c : Fin 2) : PosShare TreeShare := dealOf fullShare Finset.univ c
/-- its tile `i`'s, -/
def tileShare (c : Fin 2) (i : Fin 16) : PosShare TreeShare := dealOf (coreShare c) Finset.univ i
/-- and of that a share for each half. -/
def halfShare (c : Fin 2) (i : Fin 16) (h : Fin 2) : PosShare TreeShare := dealOf (tileShare c i) Finset.univ h

/-- The words of the flat result SparseCore `c`'s tiles compute. -/
def oCore (c : Fin 2) : Finset S16777216.Idx := Finset.univ.filter fun j => (j 0).val / 524288 % 2 = c.val

theorem mem_oCore {c : Fin 2} {j : S16777216.Idx} : j ∈ oCore c ↔ (j 0).val / 524288 % 2 = c.val := by unfold oCore; simp

theorem oCore_cover : (Finset.univ : Finset (Fin 2)).biUnion oCore = Finset.univ := by
  refine Finset.ext fun (j : S16777216.Idx) => ?_
  rw [Finset.mem_biUnion]
  exact ⟨fun _ => Finset.mem_univ _, fun _ => ⟨⟨(j 0).val / 524288 % 2, Nat.mod_lt _ (by norm_num)⟩, Finset.mem_univ _, mem_oCore.mpr rfl⟩⟩

theorem oCore_tiles (c : Fin 2) : oCore c = (Finset.univ : Finset (Fin 16)).biUnion fun i => oTile (2 * i.val + c.val) := by
  refine Finset.ext fun (j : S16777216.Idx) => ?_
  rw [Finset.mem_biUnion, mem_oCore]
  have hj : (j 0).val < 16777216 := (j 0).isLt
  constructor
  · intro hc
    exact ⟨⟨(j 0).val / 1048576, by omega⟩, Finset.mem_univ _, mem_oTile.mpr (show _ = 2 * ((j 0).val / 1048576) + c.val by omega)⟩
  · rintro ⟨i, -, hi⟩
    have := mem_oTile.mp hi
    have := c.isLt
    omega

/-- What a SparseCore is handed, the flat result at `f`, -/
def corePay (c : Fin 2) (f : Buf (Elt F) (oLoc d)) : sProp 𝕄 :=
  iprop((eLoc d ↦{coreShare c} m (eLoc d)) ∗ (tLoc d ↦{coreShare c} tab m d) ∗ (oLoc d ↦[oCore c]{fullShare} f))

/-- and what a tile is. -/
def tilePay (c : Fin 2) (i : Fin 16) (f : Buf (Elt F) (oLoc d)) : sProp 𝕄 :=
  iprop((eLoc d ↦{tileShare c i} m (eLoc d)) ∗ (tLoc d ↦{tileShare c i} tab m d) ∗ (oLoc d ↦[oTile (2 * i.val + c.val)]{fullShare} f))

instance corePay_storable (c : Fin 2) (f : Buf (Elt F) (oLoc d)) : BI.Storable (upEmb : UEmb _ 𝕄) (corePay m d c f) := by
  unfold corePay; infer_instance
instance tilePay_storable (c : Fin 2) (i : Fin 16) (f : Buf (Elt F) (oLoc d)) : BI.Storable (upEmb : UEmb _ 𝕄) (tilePay m d c i f) := by
  unfold tilePay; infer_instance

/-- The two SparseCores' parts are the three arrays whole. -/
theorem cores_whole (f : Buf (Elt F) (oLoc d)) :
    (bigSep Finset.univ fun c : Fin 2 => corePay m d c f)
      = iprop((eLoc d ↦{fullShare} m (eLoc d)) ∗ (tLoc d ↦{fullShare} tab m d) ∗ (oLoc d ↦{fullShare} f)) := by
  unfold corePay coreShare
  rw [bigSep_sep', bigSep_sep', ← pointsTo_deal _ Finset.univ_nonempty, ← pointsTo_deal _ Finset.univ_nonempty, ← pointsTo_biUnion, oCore_cover]
  intro c _ c' _ hne
  exact Finset.disjoint_left.mpr fun j h1 h2 => hne (Fin.ext ((mem_oCore.mp h1).symm.trans (mem_oCore.mp h2)))

/-- A SparseCore's sixteen tiles' parts are its own. -/
theorem tiles_core (c : Fin 2) (f : Buf (Elt F) (oLoc d)) :
    (bigSep Finset.univ fun i : Fin 16 => tilePay m d c i f) = corePay m d c f := by
  unfold corePay tilePay tileShare
  rw [bigSep_sep', bigSep_sep', ← pointsTo_deal _ Finset.univ_nonempty, ← pointsTo_deal _ Finset.univ_nonempty, ← pointsTo_biUnion, oCore_tiles]
  intro i _ i' _ hne
  exact Finset.disjoint_left.mpr fun j h1 h2 => hne (Fin.ext (by have := mem_oTile.mp h1; have := mem_oTile.mp h2; omega))

/-- A tile's share of the codes, by half. -/
theorem codes_halves (c : Fin 2) (i : Fin 16) :
    (eLoc d ↦{tileShare c i} m (eLoc d) : sProp 𝕄) = iprop((eLoc d ↦{halfShare c i 0} m (eLoc d)) ∗ (eLoc d ↦{halfShare c i 1} m (eLoc d))) := by
  rw [pointsTo_deal (Finset.univ : Finset (Fin 2)) Finset.univ_nonempty (tileShare c i)]
  exact BI.bigSep_fin_two _

/-! ## The payloads of the one call -/

/-- To a SparseCore and back, to a tile and back; nothing more is laid out at the launch. -/
def P : (K (F := F)).Pay (nD := nD) (Val := Elt F) (Name := ℕ) (U := UU) where
  st q d c := match q with | 0 => corePay m d (Fin.cast nCore_zero c) (m (oLoc d))
  dn q d c := match q with | 0 => corePay m d (Fin.cast nCore_zero c) (flat m d)
  go q d c i := match q with | 0 => tilePay m d (Fin.cast nCore_zero c) (Fin.cast nSub_zero i) (m (oLoc d))
  td q d c i := match q with | 0 => tilePay m d (Fin.cast nCore_zero c) (Fin.cast nSub_zero i) (flat m d)
  x _ _ := iprop(emp)

instance P_storable : (P (F := F) m).IsStorable where
  st q d c := match q with | 0 => corePay_storable m d (Fin.cast nCore_zero c) (m (oLoc d))
  dn q d c := match q with | 0 => corePay_storable m d (Fin.cast nCore_zero c) (flat m d)
  go q d c i := match q with | 0 => tilePay_storable m d (Fin.cast nCore_zero c) (Fin.cast nSub_zero i) (m (oLoc d))
  td q d c i := match q with | 0 => tilePay_storable m d (Fin.cast nCore_zero c) (Fin.cast nSub_zero i) (flat m d)

/-- The call's payloads over all its SparseCores are the whole arrays. -/
theorem st_whole : (bigSep Finset.univ fun c : Fin ((K (F := F)).nCore 0) => (P m).st 0 d c)
    = iprop((eLoc d ↦{fullShare} m (eLoc d)) ∗ (tLoc d ↦{fullShare} tab m d) ∗ (oLoc d ↦{fullShare} m (oLoc d))) := cores_whole m d _
theorem dn_whole : (bigSep Finset.univ fun c : Fin ((K (F := F)).nCore 0) => (P m).dn 0 d c)
    = iprop((eLoc d ↦{fullShare} m (eLoc d)) ∗ (tLoc d ↦{fullShare} tab m d) ∗ (oLoc d ↦{fullShare} flat m d)) := cores_whole m d _

/-- A SparseCore deals its part among its tiles and has it back from them. -/
theorem vecSplit : (K (F := F)).VecSplit' (P m) 0 := by
  intro d c
  show corePay m d (Fin.cast nCore_zero c) (m (oLoc d)) ⊢ |={Set.univ}=> iprop(
    (bigSep Finset.univ fun i : Fin 16 => tilePay m d (Fin.cast nCore_zero c) i (m (oLoc d)))
    ∗ ((bigSep Finset.univ fun i : Fin 16 => tilePay m d (Fin.cast nCore_zero c) i (flat m d)) -∗ corePay m d (Fin.cast nCore_zero c) (flat m d)))
  rw [tiles_core, tiles_core]
  iintro H; imodintro
  isplitl [H]; · iexact H
  iintro H; iexact H

/-! ## A tile's task -/

section Task
variable (L : grid0.Coords)

/-- The tile's five semaphores and its five buffers, by name. -/
def tileSems : Finset (SemLoc sig) :=
  {.dma cc0_scratch5.sem, .dma cc0_scratch6.sem, .dma cc0_scratch7.sem, .dma cc0_scratch8.sem, .dma cc0_scoped0.sem}
def tileBufs : Finset (Ref sig .scVector) := {cc0_scratch0, cc0_scratch1, cc0_scratch2, cc0_scratch3, cc0_scratch4}

theorem tileSems_scoped : ∀ sm ∈ tileSems, (sm : SemLoc sig).isScoped .scVector = true := by decide

theorem tileBufs_own (c : Fin τ.nSC) (i : Fin τ.nSub) : ∀ b ∈ tileBufs, ((Proc.scVector c i : Proc τ).devRef b).owner = .proc (.scVector c i) := by
  intro b hb
  unfold tileBufs at hb
  simp only [Finset.mem_insert, Finset.mem_singleton] at hb
  rcases hb with rfl | rfl | rfl | rfl | rfl <;> rfl

theorem five_bufs (Φ : Ref sig .scVector → sProp 𝕄) :
    bigSep tileBufs Φ = iprop(Φ cc0_scratch0 ∗ Φ cc0_scratch1 ∗ Φ cc0_scratch2 ∗ Φ cc0_scratch3 ∗ Φ cc0_scratch4) := by
  unfold tileBufs
  rw [SparseCore.bigSep_insert' (by decide), SparseCore.bigSep_insert' (by decide), SparseCore.bigSep_insert' (by decide),
    SparseCore.bigSep_insert' (by decide), bigSep_singleton]

/-- As the thread's own, -/
def semsOf : Finset (GSem nD τ sig) := tileSems.map ⟨fun sm => (thr d L, sm), fun _ _ e => (Prod.mk.inj e).2⟩
def bufsOf : Finset (DevRef τ sig) := tileBufs.map ⟨(Proc.scVector (cV L) (jV L) : Proc τ).devRef, Proc.devRef_injective _⟩

/-- the semaphores are these and a rest the tile leaves alone, -/
theorem sems_split : (SparseCore.Cfg.ownSems0 (thr d L) : sProp 𝕄)
    = iprop((semVal (thr d L, .dma cc0_scratch5.sem) 0 ∗ semVal (thr d L, .dma cc0_scratch6.sem) 0 ∗ semVal (thr d L, .dma cc0_scratch7.sem) 0
        ∗ semVal (thr d L, .dma cc0_scratch8.sem) 0 ∗ semVal (thr d L, .dma cc0_scoped0.sem) 0)
      ∗ bigSep (SparseCore.Cfg.ownCells (thr d L) \ semsOf d L) fun g => semVal g 0) := by
  have hsub : semsOf d L ⊆ SparseCore.Cfg.ownCells (thr d L) := by
    intro g hg
    obtain ⟨sm, hsm, rfl⟩ := Finset.mem_map.mp hg
    exact SparseCore.Cfg.mem_ownCells.mpr ⟨rfl, tileSems_scoped sm hsm⟩
  unfold SparseCore.Cfg.ownSems0
  rw [SparseCore.bigSep_sdiff_split' hsub]
  congr 1
  unfold semsOf tileSems
  rw [bigSep_map, SparseCore.bigSep_insert' (by decide), SparseCore.bigSep_insert' (by decide), SparseCore.bigSep_insert' (by decide),
    SparseCore.bigSep_insert' (by decide), bigSep_singleton]
  rfl

/-- and so are the buffers. -/
theorem bufs_split : (SparseCore.Cfg.ownBufs (thr d L) : sProp 𝕄)
    = iprop(((∃ f : Buf (Elt F) (lutM.view.loc (thr d L)), lutM.view.loc (thr d L) ↦{fullShare} f)
        ∗ (∃ f : Buf (Elt F) (idx0M.view.loc (thr d L)), idx0M.view.loc (thr d L) ↦{fullShare} f)
        ∗ (∃ f : Buf (Elt F) (idx1M.view.loc (thr d L)), idx1M.view.loc (thr d L) ↦{fullShare} f)
        ∗ (∃ f : Buf (Elt F) (val0M.view.loc (thr d L)), val0M.view.loc (thr d L) ↦{fullShare} f)
        ∗ (∃ f : Buf (Elt F) (val1M.view.loc (thr d L)), val1M.view.loc (thr d L) ↦{fullShare} f))
      ∗ bigSep (SparseCore.Cfg.ownRefs (τ := τ) (.scVector (cV L) (jV L)) \ bufsOf L) fun b => iprop(∃ f, ((d, b) : Loc nD τ sig) ↦{fullShare} f)) := by
  have hsub : bufsOf L ⊆ SparseCore.Cfg.ownRefs (τ := τ) (sig := sig) (.scVector (cV L) (jV L)) := by
    intro b hb
    obtain ⟨r, hr, rfl⟩ := Finset.mem_map.mp hb
    exact SparseCore.Cfg.mem_ownRefs_of_owner (tileBufs_own _ _ r hr)
  unfold SparseCore.Cfg.ownBufs
  refine (SparseCore.bigSep_sdiff_split' hsub).trans ?_
  congr 1
  unfold bufsOf
  rw [bigSep_map]
  exact five_bufs _

/-- The task of tile `i` of SparseCore `c`. -/
theorem task (c : Fin 2) (i : Fin 16) (hL0 : (L 0).val = c.val) (hL1 : (L 1).val = i.val) (hm : ∀ x, (m (eLoc d) x).toNat < 65536)
    (O : CellTallies nD τ sig (HIx 1)) (W : Waits sig (HIx 1)) (hO : ∀ g, O g none = 0) :
    iprop(levAts (K (F := F)).L (K (F := F)).lev ∗ emp ∗ tilePay m d c i (m (oLoc d))
        ∗ scopedBufs (thr d L) ∗ scopedSems0 (thr d L) ∗ owes (thr d L) O W)
      ⊢ wp frame (wpE (defs₀ (F := F)) 𝒱₀ (thr d L) none) Set.univ (tile L)
          fun _ => iprop(tilePay m d c i (flat m d) ∗ scopedBufs (thr d L) ∗ scopedSems0 (thr d L)
            ∗ ∃ W' : Waits sig (HIx 1), ⌜∀ p ∈ W', p ∈ W ∨ p.2 = none ∨ p.2 = some (0 : Fin 1)⌝ ∗ owes (thr d L) O W') := by
  rw [(K (F := F)).scopedBufs_V launchFacts d (cV L) (jV L), SparseCore.Cfg.scopedSems0_V (Val := Elt F) d (cV L) (jV L), sems_split, bufs_split]
  unfold tilePay
  rw [codes_halves, ← hL0, ← hL1]
  iintro ⟨#Hlv, -, ⟨⟨He0, He1⟩, Ht, Ho⟩, ⟨⟨Hl, Hi0, Hi1, Hv0, Hv1⟩, Hbr⟩, ⟨⟨H5, H6, H7, H8, H9⟩, Hsr⟩, HO⟩
  ihave Hmw := ((K (F := F)).mayWaits_none (thr := thr d L) hO) $$ Hlv
  iapply (wp_wand frame (wpE (defs₀ (F := F)) 𝒱₀ (thr d L) none) Set.univ) $$ [Hmw He0 He1 Ht Ho Hl Hi0 Hi1 Hv0 Hv1 H5 H6 H7 H8 H9 HO]
  · iapply (tile_run d L O W (q0 := halfShare c i 0) (q1 := halfShare c i 1) (qt := tileShare c i) (fe := codes m d) (ft := tab m d) hm
      (f₀ := m (oLoc d)))
    isplitl [Hmw]; · iexact Hmw
    isplitr [Ho HO]
    · unfold tools
      isplitl [He0]; · iexact He0
      isplitl [He1]; · iexact He1
      isplitl [Ht]; · iexact Ht
      isplitl [Hl]; · iexact Hl
      isplitl [Hi0]; · iexact Hi0
      isplitl [Hi1]; · iexact Hi1
      isplitl [Hv0]; · iexact Hv0
      isplitl [Hv1]; · iexact Hv1
      isplitl [H5]; · iexact H5
      isplitl [H6]; · iexact H6
      isplitl [H7]; · iexact H7
      isplitl [H8]; · iexact H8
      iexact H9
    isplitl [Ho]; · iexact Ho
    unfold owed
    iexists W
    isplitr
    · ipureintro; exact fun p hp => .inl hp
    · iexact HO
  unfold tools owed
  iintro %u ⟨⟨He0, He1, Ht, Hl, Hi0, Hi1, Hv0, Hv1, H5, H6, H7, H8, H9⟩, Ho, ⟨%W', %hW', HO⟩⟩
  isplitl [He0 He1 Ht Ho]
  · isplitl [He0 He1]
    · isplitl [He0]; · iexact He0
      iexact He1
    isplitl [Ht]; · iexact Ht
    iexact Ho
  isplitl [Hl Hi0 Hi1 Hv0 Hv1 Hbr]
  · isplitr [Hbr]
    · isplitl [Hl]; · iexact Hl
      isplitl [Hi0]; · iexact Hi0
      isplitl [Hi1]; · iexact Hi1
      isplitl [Hv0]; · iexact Hv0
      iexact Hv1
    · iexact Hbr
  isplitl [H5 H6 H7 H8 H9 Hsr]
  · isplitr [Hsr]
    · isplitl [H5]; · iexact H5
      isplitl [H6]; · iexact H6
      isplitl [H7]; · iexact H7
      isplitl [H8]; · iexact H8
      iexact H9
    · iexact Hsr
  iexists W'
  isplitr
  · ipureintro; exact fun p hp => (hW' p hp).imp_right Or.inl
  · iexact HO

end Task

end Cert.Proof.Lookup

end
-- ==== Proof.Launch.lean ====
/-
  The launch: @main reshapes the table, calls the kernel on the 32 tiles and reshapes the flat result; the program runs,
  every semaphore ends at zero, and each array ends at what this says.
-/
module

public import proofs.«01_k».proof.Proof.Payload
public import Idealize.ShloMosaic.Lib.StableHlo.Run

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 eq_ix1 eq_ix2)

variable {F : FTy → Type} [FloatOps F]

open Idealize.ShloMosaic.Transfers
open Idealize.ShloMosaic.StableHlo (held wp_hlo_within)

local notation "𝕄" => MT nD τ sig (HIx 1) (Elt F) ℕ UU ℕ

variable (m : (ℓ : Loc nD τ sig) → Buf (Elt F) ℓ) (ρ : Dev nD → PrngReg)

/-- Every code is an entry of the table. -/
def CodesOK : Prop := ∀ d x, (m (eLoc d) x).toNat < 65536

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => cc0__sc_body (coordsV c s)
      eM (Memref.isWhole_whole _) tM (Memref.isWhole_whole _) oM (Memref.isWhole_whole _) lutM (Memref.isWhole_whole _)
      idx0M (Memref.isWhole_whole _) idx1M (Memref.isWhole_whole _) val0M (Memref.isWhole_whole _) val1M (Memref.isWhole_whole _)
      cc0_scratch5 cc0_scratch6 cc0_scratch7 cc0_scratch8 cc0_scoped0) ⟨⟩ c s := rfl

theorem tileObl (hm : CodesOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte, tile_eq]
  exact task m d (coordsV ⟨_, hc.1⟩ ⟨_, hc.2⟩) (Fin.cast nCore_zero c) (Fin.cast nSub_zero i) rfl rfl (hm d) O W hO

/-! ## The launch's ghost state: the handshakes', and counters at rest -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [emps]; iempintro
  rw [show (bigSep Finset.univ fun thr : Thread nD τ => bigSep Finset.univ fun q : Fin 1 => (P m).x q thr) = (iprop(emp) : sProp 𝕄) from
    (bigSep_congr fun _ _ => emps _).trans (emps _)]
  iempintro

/-! ## @main on the TensorCore -/

abbrev e' : DevRef τ sig := Proc.devRef .tc (main_arg0 : Ref sig .tc)
abbrev c' : DevRef τ sig := Proc.devRef .tc (main_arg1 : Ref sig .tc)
abbrev t' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The two reshapes. -/
abbrev opIn : HloOp τ sig (Elt F) := StableHlo.reshape main_arg1 main_v0 (rfl : (.f32 : EltTy) = .f32) shapeCasts_S65536x1_S65536
abbrev opOut : HloOp τ sig (Elt F) := StableHlo.reshape main_v1 main_v2 (rfl : (.f32 : EltTy) = .f32) shapeCasts_S16777216_S4096x4096x1

/-- The TensorCore's five arrays. -/
abbrev S5 : Finset (DevRef τ sig) := {e', c', t', o', r'}

/-- Their contents at the launch, after the first reshape, after the kernel and at the end. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) o' (flat m d)
def V3 (d : Dev nD) : Valuation τ sig (Elt F) := (opOut (F := F)).result (V2 m d)

theorem held_S5 (d : Dev nD) (W : Valuation τ sig (Elt F)) :
    (held (T d) S5 W : sProp 𝕄) = iprop((eLoc d ↦{fullShare} W e') ∗ (cLoc d ↦{fullShare} W c') ∗ (tLoc d ↦{fullShare} W t')
      ∗ (oLoc d ↦{fullShare} W o') ∗ (rLoc d ↦{fullShare} W r')) := by
  unfold held S5
  rw [SparseCore.bigSep_insert' (by decide), SparseCore.bigSep_insert' (by decide), SparseCore.bigSep_insert' (by decide),
    SparseCore.bigSep_insert' (by decide), bigSep_singleton]

theorem unscoped_held (d : Dev nD) : (unscopedBufs d (fun b => m ((SparseCore.T d).loc b)) : sProp 𝕄) = held (T d) S5 (V0 m d) := by
  rw [held_S5]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]
  rfl

theorem V1_e (d : Dev nD) : V1 m d e' = m (eLoc d) := (opIn (F := F)).result_of_not_mem (V0 m d) (show e' ∉ ({t'} : Finset (DevRef τ sig)) by decide)
theorem V1_c (d : Dev nD) : V1 m d c' = m (cLoc d) := (opIn (F := F)).result_of_not_mem (V0 m d) (show c' ∉ ({t'} : Finset (DevRef τ sig)) by decide)
theorem V1_o (d : Dev nD) : V1 m d o' = m (oLoc d) := (opIn (F := F)).result_of_not_mem (V0 m d) (show o' ∉ ({t'} : Finset (DevRef τ sig)) by decide)
theorem V1_t (d : Dev nD) : V1 m d t' = tab m d :=
  (StableHlo.reshape_result (Val := Elt F) main_arg1 main_v0 rfl shapeCasts_S65536x1_S65536 _ _ (V0 m d)).trans rfl

theorem V2_o (d : Dev nD) : V2 m d o' = flat m d := Function.update_self _ _ _
theorem V2_ne (d : Dev nD) (b : DevRef τ sig) (h : b ≠ o') : V2 m d b = V1 m d b := Function.update_of_ne h _ _

theorem V3_e (d : Dev nD) : V3 m d e' = m (eLoc d) :=
  ((opOut (F := F)).result_of_not_mem (V2 m d) (show e' ∉ ({r'} : Finset (DevRef τ sig)) by decide)).trans
    ((V2_ne m d e' (by decide)).trans (V1_e m d))
theorem V3_c (d : Dev nD) : V3 m d c' = m (cLoc d) :=
  ((opOut (F := F)).result_of_not_mem (V2 m d) (show c' ∉ ({r'} : Finset (DevRef τ sig)) by decide)).trans
    ((V2_ne m d c' (by decide)).trans (V1_c m d))

/-- The result: the flat one at its own shape. -/
def res (d : Dev nD) : Buf (Elt F) (rLoc d) :=
  shapeCast S4096x4096x1 (show S16777216.Idx → F .f32 from flat m d) shapeCasts_S16777216_S4096x4096x1

theorem V3_r (d : Dev nD) : V3 m d r' = res m d :=
  (StableHlo.reshape_result (Val := Elt F) main_v1 main_v2 rfl shapeCasts_S16777216_S4096x4096x1 _ _ (V2 m d)).trans
    (congrArg (fun f => shapeCast S4096x4096x1 (show S16777216.Idx → F .f32 from f) shapeCasts_S16777216_S4096x4096x1) (V2_o m d))

theorem fin1 (d : Dev nD) : (held (T d) S5 ((opIn (F := F)).result (V0 m d)) : sProp 𝕄) = iprop((eLoc d ↦{fullShare} m (eLoc d)) ∗ (cLoc d ↦{fullShare} m (cLoc d))
    ∗ (tLoc d ↦{fullShare} tab m d) ∗ (oLoc d ↦{fullShare} m (oLoc d)) ∗ (rLoc d ↦{fullShare} V1 m d r')) := by
  change held (T d) S5 (V1 m d) = _
  rw [held_S5, V1_e, V1_c, V1_t, V1_o]
theorem fin3 (d : Dev nD) : (held (T d) S5 ((opOut (F := F)).result (V2 m d)) : sProp 𝕄) = iprop((eLoc d ↦{fullShare} m (eLoc d)) ∗ (cLoc d ↦{fullShare} m (cLoc d))
    ∗ (tLoc d ↦{fullShare} V3 m d t') ∗ (oLoc d ↦{fullShare} V3 m d o') ∗ (rLoc d ↦{fullShare} res m d)) := by
  change held (T d) S5 (V3 m d) = _
  rw [held_S5, V3_e, V3_c, V3_r]

/-- What @main leaves: the two arguments as they were and the result. -/
abbrev FIN (d : Dev nD) : sProp 𝕄 := iprop((eLoc d ↦{fullShare} m (eLoc d)) ∗ (cLoc d ↦{fullShare} m (cLoc d)) ∗ (rLoc d ↦{fullShare} res m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S5)
    (show ({c', t'} : Finset (DevRef τ sig)) ⊆ S5 by decide) (V := V0 m d)) $$ [Hb Hheld]
  · isplitl [Hb]; · iexact Hb
    iexact Hheld
  iintro ⟨Hb, Hheld⟩
  rw [wp_ret]; imodintro
  ihave Hh := (Entails.of_eq (fin1 m d)) $$ Hheld
  icases Hh with ⟨He, Hc, Ht, Ho, Hr⟩
  iapply ((K (F := F)).wp_run (D (F := F)) 𝒱 (EH := EH) (P := P m) κ d 0) $$ [Hst He Hc Ht Ho Hr Hb Hts]
  isplitr; · iexact Hctx
  isplitl [Hst]; · iexact Hst
  isplitl [He Ht Ho]
  · rw [st_whole]
    isplitl [He]; · iexact He
    isplitl [Ht]; · iexact Ht
    iexact Ho
  iintro ⟨Hst, Hdn⟩
  ihave Hdn := (Entails.of_eq (dn_whole m d)) $$ Hdn
  icases Hdn with ⟨He, Ht, Ho⟩
  iapply (wp_hlo_within 𝒱 (SparseCore.T d) none Set.univ (op := opOut) (S := S5)
    (show ({o', r'} : Finset (DevRef τ sig)) ⊆ S5 by decide) (V := V2 m d)) $$ [Hb He Hc Ht Ho Hr]
  · isplitl [Hb]; · iexact Hb
    rw [held_S5, V2_o, V2_ne m d e' (by decide), V2_ne m d c' (by decide), V2_ne m d t' (by decide), V2_ne m d r' (by decide), V1_e, V1_c, V1_t]
    isplitl [He]; · iexact He
    isplitl [Hc]; · iexact Hc
    isplitl [Ht]; · iexact Ht
    isplitl [Ho]; · iexact Ho
    iexact Hr
  iintro ⟨Hb, Hheld⟩
  ihave Hh := (Entails.of_eq (fin3 m d)) $$ Hheld
  icases Hh with ⟨He, Hc, -, -, Hr⟩
  rw [wp_ret]; imodintro; imodintro
  isplitl [Hst]; · iexact Hst
  isplitr [Hb Hts]
  · isplitl [He]; · iexact He
    isplitl [Hc]; · iexact Hc
    iexact Hr
  isplitl [Hb] <;> iassumption

def fq (d : Dev nD) (s' : Phys nD τ sig (Elt F)) : Prop :=
  s'.mem.mem (eLoc d) = m (eLoc d) ∧ s'.mem.mem (cLoc d) = m (cLoc d) ∧ s'.mem.mem (rLoc d) = res m d

theorem hfin (d : Dev nD) (s' : Phys nD τ sig (Elt F)) : iprop(FIN m d ∗ SI s') ⊢ (⌜fq m d s'⌝ : sProp 𝕄) := by
  iintro ⟨⟨He, Hc, Hr⟩, HSI⟩
  ihave H := (persistent_entails_right (SI_pointsTo_agree (st := s') (ℓ := eLoc d) (I := Finset.univ) (q := fullShare) (f := m (eLoc d)))) $$ [HSI He]
  · isplitl [HSI] <;> iassumption
  icases H with ⟨%h1, HSI, -⟩
  ihave H := (persistent_entails_right (SI_pointsTo_agree (st := s') (ℓ := cLoc d) (I := Finset.univ) (q := fullShare) (f := m (cLoc d)))) $$ [HSI Hc]
  · isplitl [HSI] <;> iassumption
  icases H with ⟨%h2, HSI, -⟩
  ihave H := (SI_pointsTo_agree (st := s') (ℓ := rLoc d) (I := Finset.univ) (q := fullShare) (f := res m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- How the program ends: the arguments unchanged, the result computed, every semaphore at zero. -/
def QC : PUnit × MemSt nD τ sig (Elt F) → Prop := fun r =>
  (∀ d : Dev nD, r.2.mem (eLoc d) = m (eLoc d) ∧ r.2.mem (cLoc d) = m (cLoc d) ∧ r.2.mem (rLoc d) = res m d) ∧ r.2.sem = fun _ => 0

/-- The program runs from any memory whose codes are entries of the table, and ends so. -/
theorem run_main [∀ e, Nonempty (Elt F e)] (hm : CodesOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m hm)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Lookup

end
-- ==== Proof.Value.lean ====
/-
  The reference's value: what `jnp.take` computes, read at an index, under codes that are entries of the table; what the
  two preconditions say of the arrays; and the equality of the two programs' results.
-/
module

public import proofs.«01_k».proof.Proof.Launch
public import proofs.«01_k».proof.Proof.Gen.ReferenceIdeal
public import proofs.«01_k».proof.Proof.Gen.Pre_codes_in_table
public import proofs.«01_k».proof.Proof.Gen.Pre_table_ends_in_top
public import Idealize.ShloMosaic.Lib.ReduceAll
public import Idealize.ShloMosaic.Lib.Pipeline.Value
public import Idealize.ShloMosaic.Lib.Pointwise.Select

@[expose] public section

noncomputable section

namespace Cert.Proof.Lookup

open Idealize.ShloMosaic
open Idealize.ShloMosaic.ValueIdx hiding ix1 ix2 ix3

/-! ## The preconditions, read back -/

instance : Subsingleton Cert.Pre_codes_in_table.S_.Idx := ⟨fun _ _ => funext fun a => nomatch a⟩

/-- A word from 0 up to 65535, read signed, reads the same unsigned. -/
theorem word_lt {w : BitVec 32} (h0 : (0#32).toInt ≤ w.toInt) (h1 : w.toInt < (65536#32).toInt) : w.toNat < 65536 := by
  have e0 : (0#32 : BitVec 32).toInt = 0 := by decide
  have e1 : (65536#32 : BitVec 32).toInt = 65536 := by decide
  rw [e0] at h0; rw [e1] at h1
  have := BitVec.toInt_eq_toNat_cond w
  have := w.isLt
  split at * <;> omega

/-- `codes_in_table`: every code is an entry of the table. -/
theorem codes_of_pre {F : FTy → Type} [FloatOps F] [Cert.Pre_codes_in_table.Facts] (fe : IVec Cert.Pre_codes_in_table.S4096x4096 32)
    (fc : FVec F Cert.Pre_codes_in_table.S65536x1 .f32) (h : Cert.Pre_codes_in_table.fn (F := F) fe fc = fun _ => 1#1)
    (i : Cert.Pre_codes_in_table.S4096x4096.Idx) : (fe i).toNat < 65536 := by
  have h := congrFun h (fun a => nomatch a)
  obtain ⟨h0, h1⟩ := IntOp.andi_eq_one.1 h
  have h0 := Host.reduce_andi_all _ _ _ _ _ h0 i
  have h1 := Host.reduce_andi_all _ _ _ _ _ h1 i
  exact word_lt (IntOp.cmpi_sge.1 h0) (IntOp.cmpi_slt.1 h1)

/-- `table_ends_in_top`: besides, the last entry of the table is the number that the kernel writes for it. -/
theorem codes_of_top [Cert.Pre_table_ends_in_top.Facts] (fe : IVec Cert.Pre_table_ends_in_top.S4096x4096 32)
    (fc : FVec Ideal Cert.Pre_table_ends_in_top.S65536x1 .f32) (h : Cert.Pre_table_ends_in_top.fn (F := Ideal) fe fc = fun _ => 1#1) :
    (∀ i, (fe i).toNat < 65536) ∧ fc (ix2 (n0 := 65536) (n1 := 1) 65535 0) = Scalar.ofBits (F := Ideal) .f32 0x3ED34FD3#32 := by
  have h := congrFun h (fun a => nomatch a)
  obtain ⟨h, ht⟩ := IntOp.andi_eq_one.1 h
  obtain ⟨h0, h1⟩ := IntOp.andi_eq_one.1 h
  refine ⟨fun i => word_lt (IntOp.cmpi_sge.1 (Host.reduce_andi_all _ _ _ _ _ h0 i)) (IntOp.cmpi_slt.1 (Host.reduce_andi_all _ _ _ _ _ h1 i)), ?_⟩
  have ht := (Ideal.cmp_oeq_eq_one _ _).1 ht
  refine Eq.trans ?_ ht
  rw [shapeCast_apply (k := ix2 (n0 := 1) (n1 := 1) 0 0) _ _ _ (by decide)]
  refine congrArg fc (funext fun a => Fin.ext ?_)
  match a with
  | ⟨0, _⟩ => rfl
  | ⟨1, _⟩ => rfl

/-! ## A table of one column, gathered at an array of row numbers -/

section Column
variable {α : Type}

/-- The dimension numbers of `jnp.take` from a table of `N` rows and one column at `R` by `C` row numbers. -/
abbrev columnDims (N R C : Nat) (wf : GatherDims.WF ⟨2, ![N, 1]⟩ ⟨3, ![R, C, 1]⟩ ⟨3, ![R, C, 1]⟩ [2] [0] [] [0] [] 2 ![1, 1]) :
    GatherDims ⟨2, ![N, 1]⟩ ⟨3, ![R, C, 1]⟩ ⟨3, ![R, C, 1]⟩ where
  offsetDims := [2]
  collapsedSliceDims := [0]
  operandBatchingDims := []
  startIndicesBatchingDims := []
  startIndexMap := [0]
  indexVectorDim := 2
  sliceSizes := ![1, 1]
  wf := wf

/-- The row a place of the result reads: the number there, clamped to the table. -/
theorem column_row {N R C w : Nat} (wf : GatherDims.WF ⟨2, ![N, 1]⟩ ⟨3, ![R, C, 1]⟩ ⟨3, ![R, C, 1]⟩ [2] [0] [] [0] [] 2 ![1, 1])
    (idx : IVec ⟨3, ![R, C, 1]⟩ w) (j : (⟨3, ![R, C, 1]⟩ : Shape).Idx) :
    (columnDims N R C wf).start j idx 0 + (columnDims N R C wf).batchCoord j 0 + (columnDims N R C wf).offCoord j 0
      = min (idx (ix3 (n0 := R) (n1 := C) (n2 := 1) (j 0) (j 1) 0)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 2) ∈ (columnDims N R C wf).startIndexMap from List.mem_singleton.mpr rfl)]
  refine congrArg (fun k => min (idx k).toInt.toNat (N - 1)) (funext fun b => Fin.ext ?_)
  match b with
  | ⟨0, _⟩ => rfl
  | ⟨1, _⟩ => rfl
  | ⟨2, _⟩ => rfl

/-- The gather at a place: the table's entry of that row. -/
theorem column_apply {N R C w : Nat} (wf : GatherDims.WF ⟨2, ![N, 1]⟩ ⟨3, ![R, C, 1]⟩ ⟨3, ![R, C, 1]⟩ [2] [0] [] [0] [] 2 ![1, 1])
    (x : (⟨2, ![N, 1]⟩ : Shape).Idx → α) (idx : IVec ⟨3, ![R, C, 1]⟩ w) (j : (⟨3, ![R, C, 1]⟩ : Shape).Idx) (n : Fin N)
    (hn : (idx (ix3 (n0 := R) (n1 := C) (n2 := 1) (j 0) (j 1) 0)).toInt.toNat = n.val) :
    Host.gather (columnDims N R C wf) x idx j = x (ix2 (n0 := N) (n1 := 1) n 0) := by
  unfold Host.gather
  refine congrArg x (funext fun a => Fin.ext ?_)
  match a with
  | ⟨1, _⟩ => exact Nat.lt_one_iff.1 (Fin.isLt _)
  | ⟨0, _⟩ =>
    refine (column_row wf idx j).trans ?_
    have := n.isLt
    rw [hn]
    exact Nat.min_eq_left (by omega)

end Column

/-! ## The reference at an index -/

section Reference
open Cert.ReferenceIdeal Cert.ReferenceIdeal.Facts Cert.ReferenceIdeal.Facts₀

variable {F : FTy → Type} [FloatOps F] (fe : IVec S4096x4096 32) (fc : FVec F S65536x1 .f32)

/-- The indices that the reference gathers at: a negative code counts from the table's end. -/
def refIdx : IVec S4096x4096x1 32 :=
  broadcastInDim S4096x4096x1 ![0, 1] bcast_S4096x4096_S4096x4096x1_0_1
    (select (cmpi .slt fe (broadcastInDim S4096x4096 ![] bcast_S_S4096x4096 (constantI S_ 32 0#32)))
      (addi fe (broadcastInDim S4096x4096 ![] bcast_S_S4096x4096 (constantI S_ 32 65536#32))) fe)

/-- Where those are entries of the table. -/
def refMask : IVec S4096x4096 1 :=
  Host.reduce IntOp.andi (andi (cmpi .sge (refIdx fe) (broadcastInDim S4096x4096x1 ![] bcast_S_S4096x4096x1 (constantI S_ 32 0#32)))
    (cmpi .sle (refIdx fe) (broadcastInDim S4096x4096x1 ![0, 1, 2] bcast_S1x1x1_S4096x4096x1_0_1_2 (broadcastInDim S1x1x1 ![2] bcast_S1_S1x1x1_2 (constantI S1 32 65535#32)))))
    (constantI S_ 1 1#1) reducesTo_S4096x4096x1_S4096x4096_d2 h_S_

/-- What the reference computes. -/
def refVal : FVec F S4096x4096x1 .f32 :=
  select (broadcastInDim S4096x4096x1 ![0, 1] bcast_S4096x4096_S4096x4096x1_0_1 (refMask fe))
    (Host.gather gather_S65536x1_S4096x4096x1_S4096x4096x1_2_0_n_n_0_2_11 fc (refIdx fe))
    (broadcastInDim S4096x4096x1 ![] bcast_S_S4096x4096x1 (constant S_ .f32 0x7FC00000#32))

/-- The row and the column of an index of the result. -/
abbrev rowCol (j : S4096x4096x1.Idx) : S4096x4096.Idx := ix2 (n0 := 4096) (n1 := 4096) (j 0) (j 1)

theorem spread_apply {α : Type} (x : S4096x4096.Idx → α) (j : S4096x4096x1.Idx) :
    broadcastInDim S4096x4096x1 ![0, 1] bcast_S4096x4096_S4096x4096x1_0_1 x j = x (rowCol j) :=
  broadcastInDim_apply _ _ _ _ _ fun a => by
    match a with
    | ⟨0, _⟩ => rfl
    | ⟨1, _⟩ => rfl

variable (h : ∀ i, (fe i).toNat < 65536)
include h

theorem code_toInt (i : S4096x4096.Idx) : (fe i).toInt = (fe i).toNat := by
  have := BitVec.toInt_eq_toNat_cond (fe i)
  have := h i
  split at * <;> omega

theorem refIdx_apply (j : S4096x4096x1.Idx) : refIdx fe j = fe (rowCol j) := by
  unfold refIdx
  rw [spread_apply]
  refine if_neg fun e => ?_
  have e := IntOp.cmpi_slt.1 e
  rw [code_toInt fe h] at e
  have e0 : (0#32 : BitVec 32).toInt = 0 := by decide
  have : ((fe (rowCol j)).toNat : Int) < (0#32 : BitVec 32).toInt := e
  omega

theorem refMask_apply (i : S4096x4096.Idx) : refMask fe i = 1#1 := by
  refine Host.reduce_andi_one _ _ _ _ _ rfl fun j => IntOp.andi_eq_one.2 ⟨IntOp.cmpi_sge.2 ?_, IntOp.cmpi_sle.2 ?_⟩
  · rw [refIdx_apply fe h, code_toInt fe h]
    have e0 : (0#32 : BitVec 32).toInt = 0 := by decide
    change (0#32 : BitVec 32).toInt ≤ _
    omega
  · rw [refIdx_apply fe h, code_toInt fe h]
    have e0 : (65535#32 : BitVec 32).toInt = 65535 := by decide
    have := h (rowCol j)
    change _ ≤ (65535#32 : BitVec 32).toInt
    omega

/-- The reference's result: at each place the table's entry for the code there. -/
theorem refVal_apply (j : S4096x4096x1.Idx) : refVal fe fc j = fc (ix2 (n0 := 65536) (n1 := 1) ⟨(fe (rowCol j)).toNat, h _⟩ 0) := by
  unfold refVal
  rw [select_apply, spread_apply, refMask_apply fe h, select_one]
  refine column_apply gather_S65536x1_S4096x4096x1_S4096x4096x1_2_0_n_n_0_2_11_wf fc (refIdx fe) j ⟨_, h (rowCol j)⟩ ?_
  rw [refIdx_apply fe h, code_toInt fe h, Int.toNat_natCast]
  rfl

end Reference

/-! ## The kernel's result is the reference's -/

section Kernel
open Cert.KernelIdeal Cert.KernelIdeal.Gen

variable {F : FTy → Type} [FloatOps F] (fe : S4096x4096.Idx → BitVec 32) (fc : S65536x1.Idx → F .f32)

/-- The place of the flat result for row `r` and column `c`. -/
theorem flat_codeIx (j : S4096x4096x1.Idx) (n : ℕ) (hn : n = (j 0).val * 4096 + (j 1).val) (hn' : n < 16777216) : codeIx n hn' = rowCol j := by
  have h1 : (j 1).val < 4096 := (j 1).isLt
  funext a
  refine Fin.ext ?_
  match a with
  | ⟨0, _⟩ => change n / 4096 = (j 0).val; omega
  | ⟨1, _⟩ => change n % 4096 = (j 1).val; omega

/-- The flat result at its own shape, read at a place: the entry for the code there. -/
theorem outVal_apply (ft : S65536.Idx → F .f32) (j : S4096x4096x1.Idx) :
    shapeCast S4096x4096x1 (outVal fe ft) shapeCasts_S16777216_S4096x4096x1 j = entry ft (fe (rowCol j)) := by
  have h0 : (j 0).val < 4096 := (j 0).isLt
  have h1 : (j 1).val < 4096 := (j 1).isLt
  have h2 : (j 2).val < 1 := (j 2).isLt
  rw [shapeCast_apply (k := ix1 (n0 := 16777216) ⟨(j 0).val * 4096 + (j 1).val, by omega⟩)]
  · exact congrArg (fun i => entry ft (fe i)) (flat_codeIx j _ rfl _)
  · refine (Shape.rowMajor_val_one _).trans (Eq.trans ?_ (Shape.rowMajor_val_three j).symm)
    change (j 0).val * 4096 + (j 1).val = ((j 0).val * 4096 + (j 1).val) * 1 + (j 2).val
    omega

/-- An entry of the flattened table is the table's own, where the last one is the number that the kernel writes for it. -/
theorem entry_eq (htop : fc (ix2 (n0 := 65536) (n1 := 1) 65535 0) = Scalar.ofBits .f32 0x3ED34FD3#32) (w : BitVec 32) (hw : w.toNat < 65536) :
    entry (shapeCast S65536 fc shapeCasts_S65536x1_S65536) w = fc (ix2 (n0 := 65536) (n1 := 1) ⟨w.toNat, hw⟩ 0) := by
  unfold entry
  split
  · refine shapeCast_apply _ _ _ _ ?_
    refine (Shape.rowMajor_val_two _).trans (Eq.trans ?_ (Shape.rowMajor_val_one _).symm)
    change w.toNat * 1 + 0 = w.toNat
    omega
  · rename_i hn
    have e : (⟨w.toNat, hw⟩ : Fin 65536) = 65535 := Fin.ext (by change w.toNat = 65535; omega)
    rw [e, htop]

/-- The kernel's result, at each place the reference's. -/
theorem out_eq_ref (h : ∀ i, (fe i).toNat < 65536) (htop : fc (ix2 (n0 := 65536) (n1 := 1) 65535 0) = Scalar.ofBits .f32 0x3ED34FD3#32) :
    shapeCast S4096x4096x1 (outVal fe (shapeCast S65536 fc shapeCasts_S65536x1_S65536)) shapeCasts_S16777216_S4096x4096x1
      = refVal (F := F) fe fc := by
  funext j
  rw [outVal_apply, refVal_apply fe fc h, entry_eq fc htop _ (h _)]

end Kernel

end Cert.Proof.Lookup

end
-- ==== Proof.lean ====
/-
  The certificate's claim: the kernel and its ideal version run to the end without a fault, leave their arguments and every
  semaphore as they should, and at `Ideal` the kernel's result is the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_codes_in_table
public import proofs.«01_k».proof.Proof.Gen.Pre_table_ends_in_top
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The generated instances of the programs' and the preconditions' facts. -/
local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_codes_in_table.Facts := Cert.Pre_codes_in_table.Gen.facts
local instance : Cert.Pre_table_ends_in_top.Facts := Cert.Pre_table_ends_in_top.Gen.facts

/-- The kernel, with floats as words: it runs, keeps its arguments and leaves every semaphore at zero. The two printed
    texts are one, so that this is the run of the other. -/
theorem frame_kernel : Cert.quiescent_Kernel := fun m ρ hpre =>
  (θ_run Cert.KernelIdeal.defs _ _).mono (fun _ h => ⟨fun c => ⟨(h.1 c).1, (h.1 c).2.1⟩, h.2⟩)
    (Lookup.run_main (F := Bits) m ρ fun d => Lookup.codes_of_pre _ _ (hpre d))

/-- The ideal kernel: likewise. -/
theorem frame_ideal : Cert.quiescent_KernelIdeal := fun m ρ hpre =>
  (θ_run Cert.KernelIdeal.defs _ _).mono (fun _ h => ⟨fun c => ⟨(h.1 c).1, (h.1 c).2.1⟩, h.2⟩)
    (Lookup.run_main (F := Ideal) m ρ fun d => Lookup.codes_of_pre _ _ (hpre d))

/-- The ideal kernel under the value claim's precondition: likewise. -/
theorem frame_ideal_top : Cert.quiescent_KernelIdeal_pre_table_ends_in_top := fun m ρ hpre =>
  (θ_run Cert.KernelIdeal.defs _ _).mono (fun _ h => ⟨fun c => ⟨(h.1 c).1, (h.1 c).2.1⟩, h.2⟩)
    (Lookup.run_main (F := Ideal) m ρ fun d => (Lookup.codes_of_top _ _ (hpre d)).1)

/-- The reference runs and keeps its arguments; it declares no semaphore. -/
theorem frame_reference : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

/-- The same under the value claim's precondition. -/
theorem frame_reference_top : Cert.quiescent_ReferenceIdeal_pre_table_ends_in_top := fun m ρ _ =>
  frame_reference m ρ trivial

/-- From the same arguments, codes that are entries of a table ending in the number the kernel writes for its last entry,
    the ideal kernel's result is the reference's: at each place the table's entry for the code there. -/
theorem algebraic : Cert.algebraic_KernelIdeal_ReferenceIdeal_pre_table_ends_in_top := by
  intro m ρ m' ρ' hpre hagree
  have hp : ∀ d, _ := fun d => Lookup.codes_of_top _ _ (hpre d)
  refine ⟨fun c => Lookup.res m c, (θ_run Cert.KernelIdeal.defs _ _).mono (fun _ h c => ⟨(h.1 c).2.2, (h.1 c).1, (h.1 c).2.1⟩)
    (Lookup.run_main (F := Ideal) m ρ fun d => (hp d).1), ?_⟩
  refine (θ_run Cert.ReferenceIdeal.defs _ _).mono (fun r h c => ⟨(h c).1.trans ?_, (h c).2.1, (h c).2.2⟩)
    (Cert.ReferenceIdeal.Value.run (F := Ideal) m' ρ')
  refine Eq.trans (show _ = Lookup.refVal (F := Ideal) (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1)) from rfl) ?_
  rw [(hagree c).1, (hagree c).2]
  exact (Lookup.out_eq_ref (F := Ideal) _ _ (hp c).1 (hp c).2).symm

theorem claim : Cert.Claim :=
  ⟨Cert.Kernel.Gen.facts, Cert.KernelIdeal.Gen.facts, Cert.ReferenceIdeal.Gen.facts, Cert.Pre_codes_in_table.Gen.facts,
    Cert.Pre_table_ends_in_top.Gen.facts, frame_kernel, frame_ideal, frame_ideal_top, frame_reference, frame_reference_top, trivial, algebraic⟩

end Cert.Proof

end
